-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![256, 4096]⟩ ⟨2, ![4096, 4096]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 128]⟩ ⟨2, ![4096, 2048]⟩ 1 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x4096 : Shape := ⟨2, ![256, 4096]⟩
abbrev S4096x2048 : Shape := ⟨2, ![4096, 2048]⟩
abbrev S4096x128 : Shape := ⟨2, ![4096, 128]⟩
abbrev S2x4096x512 : Shape := ⟨3, ![2, 4096, 512]⟩
abbrev S16x256x128 : Shape := ⟨3, ![16, 256, 128]⟩
abbrev S1x128 : Shape := ⟨2, ![1, 128]⟩
abbrev S16x128 : Shape := ⟨2, ![16, 128]⟩
abbrev S_ : Shape := ⟨0, ![]⟩
abbrev S2 : Shape := ⟨1, ![2]⟩
abbrev S16 : Shape := ⟨1, ![16]⟩
abbrev S1 : Shape := ⟨1, ![1]⟩
abbrev S1x4096x512 : Shape := ⟨3, ![1, 4096, 512]⟩
abbrev S4096x512 : Shape := ⟨2, ![4096, 512]⟩
abbrev S256x512 : Shape := ⟨2, ![256, 512]⟩
abbrev S1x256x512 : Shape := ⟨3, ![1, 256, 512]⟩
abbrev S1x1x1 : Shape := ⟨3, ![1, 1, 1]⟩
abbrev S256x128 : Shape := ⟨2, ![256, 128]⟩
abbrev S1x256x128 : Shape := ⟨3, ![1, 256, 128]⟩
abbrev S1x16x128 : Shape := ⟨3, ![1, 16, 128]⟩

abbrev nBuf : Space → Nat
  | .hbm => 3
  | .vmem => 8
  | .smem => 0
  | _ => 0

abbrev bufTy : (tb : Table) → Fin (tcTables nBuf tb) → BufTy
  | .hbm, ⟨0, _⟩ => ⟨S256x4096, .f32⟩
  | .hbm, ⟨1, _⟩ => ⟨S4096x2048, .f32⟩
  | .hbm, ⟨2, _⟩ => ⟨S4096x128, .f32⟩
  | .local _ .vmem, ⟨0, _⟩ => ⟨S4096x128, .f32⟩
  | .local _ .vmem, ⟨1, _⟩ => ⟨S256x4096, .f32⟩
  | .local _ .vmem, ⟨2, _⟩ => ⟨S256x4096, .bf16⟩
  | .local _ .vmem, ⟨3, _⟩ => ⟨S2x4096x512, .f32⟩
  | .local _ .vmem, ⟨4, _⟩ => ⟨S16x256x128, .bf16⟩
  | .local _ .vmem, ⟨5, _⟩ => ⟨S4096x128, .bf16⟩
  | .local _ .vmem, ⟨6, _⟩ => ⟨S1x128, .f32⟩
  | .local _ .vmem, ⟨7, _⟩ => ⟨S16x128, .f32⟩
  | _, _ => ⟨S256x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 68 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | _ => false

abbrev sig : RefSig :=
  (ofTc nBuf bufTy 1 68 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_scratch5 : Ref sig .tc := ⟨.vmem, 6, rfl⟩
abbrev cc0_scratch6 : Ref sig .tc := ⟨.vmem, 7, rfl⟩
abbrev cc0_sem0_0 : DmaSem sig := 0
abbrev barrier0 : Sem sig := 0

abbrev nD : Nat := 16
abbrev τ : Topo := Topo.v7x

variable {F : FTy → Type} [FloatOps F]

abbrev grid0 : Pipeline.Grid := .none

def k0_off1 (d0 : Dev nD) (c1_i32_0 : BitVec 32) : Fin 2 → Nat :=
  let c0_i32_5 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let v4 : BitVec 32 := Scalar.addi v3 c1_i32_0
  let c4_i32_1 : BitVec 32 := 4#32
  let v5 : BitVec 32 := Scalar.remsi v4 c4_i32_1
  let c512_i32 : BitVec 32 := 512#32
  let v6 : BitVec 32 := Scalar.muli v5 c512_i32
  ![0, v6.toNat]
def k0_dev1 (d0 : Dev nD) : Nat :=
  let c0_i32_20 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_16 : BitVec 32 := 1#32
  let v26 : BitVec 32 := Scalar.addi v2 c1_i32_16
  let c16_i32_17 : BitVec 32 := 16#32
  let v27 : BitVec 32 := Scalar.remsi v26 c16_i32_17
  let c1_i32_19 : BitVec 32 := 1#32
  let v28 : BitVec 32 := Scalar.muli v27 c1_i32_19
  let v29 : BitVec 32 := Scalar.addi c0_i32_20 v28
  v29.toNat
def k0_dev2 (d0 : Dev nD) : Nat :=
  let c0_i32_25 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_21 : BitVec 32 := 2#32
  let v30 : BitVec 32 := Scalar.addi v2 c2_i32_21
  let c16_i32_22 : BitVec 32 := 16#32
  let v31 : BitVec 32 := Scalar.remsi v30 c16_i32_22
  let c1_i32_24 : BitVec 32 := 1#32
  let v32 : BitVec 32 := Scalar.muli v31 c1_i32_24
  let v33 : BitVec 32 := Scalar.addi c0_i32_25 v32
  v33.toNat
def k0_dev3 (d0 : Dev nD) : Nat :=
  let c0_i32_29 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v34 : BitVec 32 := Scalar.addi v2 c3_i32
  let c16_i32_26 : BitVec 32 := 16#32
  let v35 : BitVec 32 := Scalar.remsi v34 c16_i32_26
  let c1_i32_28 : BitVec 32 := 1#32
  let v36 : BitVec 32 := Scalar.muli v35 c1_i32_28
  let v37 : BitVec 32 := Scalar.addi c0_i32_29 v36
  v37.toNat
def k0_dev4 (d0 : Dev nD) : Nat :=
  let c0_i32_34 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_30 : BitVec 32 := 4#32
  let v38 : BitVec 32 := Scalar.addi v2 c4_i32_30
  let c16_i32_31 : BitVec 32 := 16#32
  let v39 : BitVec 32 := Scalar.remsi v38 c16_i32_31
  let c1_i32_33 : BitVec 32 := 1#32
  let v40 : BitVec 32 := Scalar.muli v39 c1_i32_33
  let v41 : BitVec 32 := Scalar.addi c0_i32_34 v40
  v41.toNat
def k0_dev5 (d0 : Dev nD) : Nat :=
  let c0_i32_38 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v42 : BitVec 32 := Scalar.addi v2 c5_i32
  let c16_i32_35 : BitVec 32 := 16#32
  let v43 : BitVec 32 := Scalar.remsi v42 c16_i32_35
  let c1_i32_37 : BitVec 32 := 1#32
  let v44 : BitVec 32 := Scalar.muli v43 c1_i32_37
  let v45 : BitVec 32 := Scalar.addi c0_i32_38 v44
  v45.toNat
def k0_dev6 (d0 : Dev nD) : Nat :=
  let c0_i32_42 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v46 : BitVec 32 := Scalar.addi v2 c6_i32
  let c16_i32_39 : BitVec 32 := 16#32
  let v47 : BitVec 32 := Scalar.remsi v46 c16_i32_39
  let c1_i32_41 : BitVec 32 := 1#32
  let v48 : BitVec 32 := Scalar.muli v47 c1_i32_41
  let v49 : BitVec 32 := Scalar.addi c0_i32_42 v48
  v49.toNat
def k0_dev7 (d0 : Dev nD) : Nat :=
  let c0_i32_46 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v50 : BitVec 32 := Scalar.addi v2 c7_i32
  let c16_i32_43 : BitVec 32 := 16#32
  let v51 : BitVec 32 := Scalar.remsi v50 c16_i32_43
  let c1_i32_45 : BitVec 32 := 1#32
  let v52 : BitVec 32 := Scalar.muli v51 c1_i32_45
  let v53 : BitVec 32 := Scalar.addi c0_i32_46 v52
  v53.toNat
def k0_dev8 (d0 : Dev nD) : Nat :=
  let c0_i32_50 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v54 : BitVec 32 := Scalar.addi v2 c8_i32
  let c16_i32_47 : BitVec 32 := 16#32
  let v55 : BitVec 32 := Scalar.remsi v54 c16_i32_47
  let c1_i32_49 : BitVec 32 := 1#32
  let v56 : BitVec 32 := Scalar.muli v55 c1_i32_49
  let v57 : BitVec 32 := Scalar.addi c0_i32_50 v56
  v57.toNat
def k0_dev9 (d0 : Dev nD) : Nat :=
  let c0_i32_54 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v58 : BitVec 32 := Scalar.addi v2 c9_i32
  let c16_i32_51 : BitVec 32 := 16#32
  let v59 : BitVec 32 := Scalar.remsi v58 c16_i32_51
  let c1_i32_53 : BitVec 32 := 1#32
  let v60 : BitVec 32 := Scalar.muli v59 c1_i32_53
  let v61 : BitVec 32 := Scalar.addi c0_i32_54 v60
  v61.toNat
def k0_dev10 (d0 : Dev nD) : Nat :=
  let c0_i32_58 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v62 : BitVec 32 := Scalar.addi v2 c10_i32
  let c16_i32_55 : BitVec 32 := 16#32
  let v63 : BitVec 32 := Scalar.remsi v62 c16_i32_55
  let c1_i32_57 : BitVec 32 := 1#32
  let v64 : BitVec 32 := Scalar.muli v63 c1_i32_57
  let v65 : BitVec 32 := Scalar.addi c0_i32_58 v64
  v65.toNat
def k0_dev11 (d0 : Dev nD) : Nat :=
  let c0_i32_62 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v66 : BitVec 32 := Scalar.addi v2 c11_i32
  let c16_i32_59 : BitVec 32 := 16#32
  let v67 : BitVec 32 := Scalar.remsi v66 c16_i32_59
  let c1_i32_61 : BitVec 32 := 1#32
  let v68 : BitVec 32 := Scalar.muli v67 c1_i32_61
  let v69 : BitVec 32 := Scalar.addi c0_i32_62 v68
  v69.toNat
def k0_dev12 (d0 : Dev nD) : Nat :=
  let c0_i32_66 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v70 : BitVec 32 := Scalar.addi v2 c12_i32
  let c16_i32_63 : BitVec 32 := 16#32
  let v71 : BitVec 32 := Scalar.remsi v70 c16_i32_63
  let c1_i32_65 : BitVec 32 := 1#32
  let v72 : BitVec 32 := Scalar.muli v71 c1_i32_65
  let v73 : BitVec 32 := Scalar.addi c0_i32_66 v72
  v73.toNat
def k0_dev13 (d0 : Dev nD) : Nat :=
  let c0_i32_70 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v74 : BitVec 32 := Scalar.addi v2 c13_i32
  let c16_i32_67 : BitVec 32 := 16#32
  let v75 : BitVec 32 := Scalar.remsi v74 c16_i32_67
  let c1_i32_69 : BitVec 32 := 1#32
  let v76 : BitVec 32 := Scalar.muli v75 c1_i32_69
  let v77 : BitVec 32 := Scalar.addi c0_i32_70 v76
  v77.toNat
def k0_dev14 (d0 : Dev nD) : Nat :=
  let c0_i32_74 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v78 : BitVec 32 := Scalar.addi v2 c14_i32
  let c16_i32_71 : BitVec 32 := 16#32
  let v79 : BitVec 32 := Scalar.remsi v78 c16_i32_71
  let c1_i32_73 : BitVec 32 := 1#32
  let v80 : BitVec 32 := Scalar.muli v79 c1_i32_73
  let v81 : BitVec 32 := Scalar.addi c0_i32_74 v80
  v81.toNat
def k0_dev15 (d0 : Dev nD) : Nat :=
  let c0_i32_78 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v82 : BitVec 32 := Scalar.addi v2 c15_i32
  let c16_i32_75 : BitVec 32 := 16#32
  let v83 : BitVec 32 := Scalar.remsi v82 c16_i32_75
  let c1_i32_77 : BitVec 32 := 1#32
  let v84 : BitVec 32 := Scalar.muli v83 c1_i32_77
  let v85 : BitVec 32 := Scalar.addi c0_i32_78 v84
  v85.toNat
def k0_off2 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32 : BitVec 32 := 256#32
  let v136 : BitVec 32 := Scalar.muli v2 c256_i32
  let c0_i32_121 : BitVec 32 := 0#32
  ![v136.toNat, 0]
def k0_off3 (d0 : Dev nD) (c0_i32_115 : BitVec 32) (c0_i32_113 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v131 : BitVec 32 := Scalar.addi v2 c0_i32_113
  let c4_i32_114 : BitVec 32 := 4#32
  let v132 : BitVec 32 := Scalar.remsi v131 c4_i32_114
  let v133 : BitVec 32 := Scalar.addi c0_i32_115 v132
  let c0_i32_122 : BitVec 32 := 0#32
  let c0_i32_123 : BitVec 32 := 0#32
  ![v133.toNat, 0, 0]
def k0_off3_at (r : Fin 15) : BitVec 32 × BitVec 32 :=
  if r.val < 7 then
    if r.val < 3 then
      if r.val < 1 then
        (0#32, 0#32)
      else
        if r.val < 2 then
          (0#32, 1#32)
        else
          (0#32, 2#32)
    else
      if r.val < 5 then
        if r.val < 4 then
          (0#32, 3#32)
        else
          (4#32, 0#32)
      else
        if r.val < 6 then
          (4#32, 1#32)
        else
          (4#32, 2#32)
  else
    if r.val < 11 then
      if r.val < 9 then
        if r.val < 8 then
          (4#32, 3#32)
        else
          (8#32, 0#32)
      else
        if r.val < 10 then
          (8#32, 1#32)
        else
          (8#32, 2#32)
    else
      if r.val < 13 then
        if r.val < 12 then
          (8#32, 3#32)
        else
          (12#32, 1#32)
      else
        if r.val < 14 then
          (12#32, 2#32)
        else
          (12#32, 3#32)
def k0_dev16 (d0 : Dev nD) : Nat :=
  let c0_i32_120 : BitVec 32 := 0#32
  let c4_i32_116 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_80 : BitVec 32 := 1#32
  let v86 : BitVec 32 := Scalar.addi v3 c1_i32_80
  let c4_i32_81 : BitVec 32 := 4#32
  let v87 : BitVec 32 := Scalar.remsi v86 c4_i32_81
  let v134 : BitVec 32 := Scalar.muli c4_i32_116 v87
  let c0_i32_113 : BitVec 32 := 0#32
  let v131 : BitVec 32 := Scalar.addi v2 c0_i32_113
  let c4_i32_114 : BitVec 32 := 4#32
  let v132 : BitVec 32 := Scalar.remsi v131 c4_i32_114
  let v135 : BitVec 32 := Scalar.addi v134 v132
  let c1_i32_119 : BitVec 32 := 1#32
  let v137 : BitVec 32 := Scalar.muli v135 c1_i32_119
  let v138 : BitVec 32 := Scalar.addi c0_i32_120 v137
  v138.toNat
def k0_dev17 (d0 : Dev nD) : Nat :=
  let c0_i32_132 : BitVec 32 := 0#32
  let c4_i32_127 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_80 : BitVec 32 := 1#32
  let v86 : BitVec 32 := Scalar.addi v3 c1_i32_80
  let c4_i32_81 : BitVec 32 := 4#32
  let v87 : BitVec 32 := Scalar.remsi v86 c4_i32_81
  let v149 : BitVec 32 := Scalar.muli c4_i32_127 v87
  let c1_i32_124 : BitVec 32 := 1#32
  let v146 : BitVec 32 := Scalar.addi v2 c1_i32_124
  let c4_i32_125 : BitVec 32 := 4#32
  let v147 : BitVec 32 := Scalar.remsi v146 c4_i32_125
  let v150 : BitVec 32 := Scalar.addi v149 v147
  let c1_i32_131 : BitVec 32 := 1#32
  let v152 : BitVec 32 := Scalar.muli v150 c1_i32_131
  let v153 : BitVec 32 := Scalar.addi c0_i32_132 v152
  v153.toNat
def k0_dev18 (d0 : Dev nD) : Nat :=
  let c0_i32_144 : BitVec 32 := 0#32
  let c4_i32_139 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_80 : BitVec 32 := 1#32
  let v86 : BitVec 32 := Scalar.addi v3 c1_i32_80
  let c4_i32_81 : BitVec 32 := 4#32
  let v87 : BitVec 32 := Scalar.remsi v86 c4_i32_81
  let v164 : BitVec 32 := Scalar.muli c4_i32_139 v87
  let c2_i32_136 : BitVec 32 := 2#32
  let v161 : BitVec 32 := Scalar.addi v2 c2_i32_136
  let c4_i32_137 : BitVec 32 := 4#32
  let v162 : BitVec 32 := Scalar.remsi v161 c4_i32_137
  let v165 : BitVec 32 := Scalar.addi v164 v162
  let c1_i32_143 : BitVec 32 := 1#32
  let v167 : BitVec 32 := Scalar.muli v165 c1_i32_143
  let v168 : BitVec 32 := Scalar.addi c0_i32_144 v167
  v168.toNat
def k0_dev19 (d0 : Dev nD) : Nat :=
  let c0_i32_156 : BitVec 32 := 0#32
  let c4_i32_151 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_80 : BitVec 32 := 1#32
  let v86 : BitVec 32 := Scalar.addi v3 c1_i32_80
  let c4_i32_81 : BitVec 32 := 4#32
  let v87 : BitVec 32 := Scalar.remsi v86 c4_i32_81
  let v179 : BitVec 32 := Scalar.muli c4_i32_151 v87
  let c3_i32_148 : BitVec 32 := 3#32
  let v176 : BitVec 32 := Scalar.addi v2 c3_i32_148
  let c4_i32_149 : BitVec 32 := 4#32
  let v177 : BitVec 32 := Scalar.remsi v176 c4_i32_149
  let v180 : BitVec 32 := Scalar.addi v179 v177
  let c1_i32_155 : BitVec 32 := 1#32
  let v182 : BitVec 32 := Scalar.muli v180 c1_i32_155
  let v183 : BitVec 32 := Scalar.addi c0_i32_156 v182
  v183.toNat
def k0_dev20 (d0 : Dev nD) : Nat :=
  let c0_i32_201 : BitVec 32 := 0#32
  let c4_i32_196 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c2_i32_160 : BitVec 32 := 2#32
  let v191 : BitVec 32 := Scalar.addi v3 c2_i32_160
  let c4_i32_161 : BitVec 32 := 4#32
  let v192 : BitVec 32 := Scalar.remsi v191 c4_i32_161
  let v240 : BitVec 32 := Scalar.muli c4_i32_196 v192
  let c0_i32_193 : BitVec 32 := 0#32
  let v237 : BitVec 32 := Scalar.addi v2 c0_i32_193
  let c4_i32_194 : BitVec 32 := 4#32
  let v238 : BitVec 32 := Scalar.remsi v237 c4_i32_194
  let v241 : BitVec 32 := Scalar.addi v240 v238
  let c1_i32_200 : BitVec 32 := 1#32
  let v243 : BitVec 32 := Scalar.muli v241 c1_i32_200
  let v244 : BitVec 32 := Scalar.addi c0_i32_201 v243
  v244.toNat
def k0_dev21 (d0 : Dev nD) : Nat :=
  let c0_i32_213 : BitVec 32 := 0#32
  let c4_i32_208 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c2_i32_160 : BitVec 32 := 2#32
  let v191 : BitVec 32 := Scalar.addi v3 c2_i32_160
  let c4_i32_161 : BitVec 32 := 4#32
  let v192 : BitVec 32 := Scalar.remsi v191 c4_i32_161
  let v255 : BitVec 32 := Scalar.muli c4_i32_208 v192
  let c1_i32_205 : BitVec 32 := 1#32
  let v252 : BitVec 32 := Scalar.addi v2 c1_i32_205
  let c4_i32_206 : BitVec 32 := 4#32
  let v253 : BitVec 32 := Scalar.remsi v252 c4_i32_206
  let v256 : BitVec 32 := Scalar.addi v255 v253
  let c1_i32_212 : BitVec 32 := 1#32
  let v258 : BitVec 32 := Scalar.muli v256 c1_i32_212
  let v259 : BitVec 32 := Scalar.addi c0_i32_213 v258
  v259.toNat
def k0_dev22 (d0 : Dev nD) : Nat :=
  let c0_i32_225 : BitVec 32 := 0#32
  let c4_i32_220 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c2_i32_160 : BitVec 32 := 2#32
  let v191 : BitVec 32 := Scalar.addi v3 c2_i32_160
  let c4_i32_161 : BitVec 32 := 4#32
  let v192 : BitVec 32 := Scalar.remsi v191 c4_i32_161
  let v270 : BitVec 32 := Scalar.muli c4_i32_220 v192
  let c2_i32_217 : BitVec 32 := 2#32
  let v267 : BitVec 32 := Scalar.addi v2 c2_i32_217
  let c4_i32_218 : BitVec 32 := 4#32
  let v268 : BitVec 32 := Scalar.remsi v267 c4_i32_218
  let v271 : BitVec 32 := Scalar.addi v270 v268
  let c1_i32_224 : BitVec 32 := 1#32
  let v273 : BitVec 32 := Scalar.muli v271 c1_i32_224
  let v274 : BitVec 32 := Scalar.addi c0_i32_225 v273
  v274.toNat
def k0_dev23 (d0 : Dev nD) : Nat :=
  let c0_i32_237 : BitVec 32 := 0#32
  let c4_i32_232 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c2_i32_160 : BitVec 32 := 2#32
  let v191 : BitVec 32 := Scalar.addi v3 c2_i32_160
  let c4_i32_161 : BitVec 32 := 4#32
  let v192 : BitVec 32 := Scalar.remsi v191 c4_i32_161
  let v285 : BitVec 32 := Scalar.muli c4_i32_232 v192
  let c3_i32_229 : BitVec 32 := 3#32
  let v282 : BitVec 32 := Scalar.addi v2 c3_i32_229
  let c4_i32_230 : BitVec 32 := 4#32
  let v283 : BitVec 32 := Scalar.remsi v282 c4_i32_230
  let v286 : BitVec 32 := Scalar.addi v285 v283
  let c1_i32_236 : BitVec 32 := 1#32
  let v288 : BitVec 32 := Scalar.muli v286 c1_i32_236
  let v289 : BitVec 32 := Scalar.addi c0_i32_237 v288
  v289.toNat
def k0_dev24 (d0 : Dev nD) : Nat :=
  let c0_i32_274 : BitVec 32 := 0#32
  let c4_i32_269 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c3_i32_241 : BitVec 32 := 3#32
  let v297 : BitVec 32 := Scalar.addi v3 c3_i32_241
  let c4_i32_242 : BitVec 32 := 4#32
  let v298 : BitVec 32 := Scalar.remsi v297 c4_i32_242
  let v338 : BitVec 32 := Scalar.muli c4_i32_269 v298
  let c0_i32_266 : BitVec 32 := 0#32
  let v335 : BitVec 32 := Scalar.addi v2 c0_i32_266
  let c4_i32_267 : BitVec 32 := 4#32
  let v336 : BitVec 32 := Scalar.remsi v335 c4_i32_267
  let v339 : BitVec 32 := Scalar.addi v338 v336
  let c1_i32_273 : BitVec 32 := 1#32
  let v341 : BitVec 32 := Scalar.muli v339 c1_i32_273
  let v342 : BitVec 32 := Scalar.addi c0_i32_274 v341
  v342.toNat
def k0_dev25 (d0 : Dev nD) : Nat :=
  let c0_i32_286 : BitVec 32 := 0#32
  let c4_i32_281 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c3_i32_241 : BitVec 32 := 3#32
  let v297 : BitVec 32 := Scalar.addi v3 c3_i32_241
  let c4_i32_242 : BitVec 32 := 4#32
  let v298 : BitVec 32 := Scalar.remsi v297 c4_i32_242
  let v353 : BitVec 32 := Scalar.muli c4_i32_281 v298
  let c1_i32_278 : BitVec 32 := 1#32
  let v350 : BitVec 32 := Scalar.addi v2 c1_i32_278
  let c4_i32_279 : BitVec 32 := 4#32
  let v351 : BitVec 32 := Scalar.remsi v350 c4_i32_279
  let v354 : BitVec 32 := Scalar.addi v353 v351
  let c1_i32_285 : BitVec 32 := 1#32
  let v356 : BitVec 32 := Scalar.muli v354 c1_i32_285
  let v357 : BitVec 32 := Scalar.addi c0_i32_286 v356
  v357.toNat
def k0_dev26 (d0 : Dev nD) : Nat :=
  let c0_i32_298 : BitVec 32 := 0#32
  let c4_i32_293 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c3_i32_241 : BitVec 32 := 3#32
  let v297 : BitVec 32 := Scalar.addi v3 c3_i32_241
  let c4_i32_242 : BitVec 32 := 4#32
  let v298 : BitVec 32 := Scalar.remsi v297 c4_i32_242
  let v368 : BitVec 32 := Scalar.muli c4_i32_293 v298
  let c2_i32_290 : BitVec 32 := 2#32
  let v365 : BitVec 32 := Scalar.addi v2 c2_i32_290
  let c4_i32_291 : BitVec 32 := 4#32
  let v366 : BitVec 32 := Scalar.remsi v365 c4_i32_291
  let v369 : BitVec 32 := Scalar.addi v368 v366
  let c1_i32_297 : BitVec 32 := 1#32
  let v371 : BitVec 32 := Scalar.muli v369 c1_i32_297
  let v372 : BitVec 32 := Scalar.addi c0_i32_298 v371
  v372.toNat
def k0_dev27 (d0 : Dev nD) : Nat :=
  let c0_i32_310 : BitVec 32 := 0#32
  let c4_i32_305 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c3_i32_241 : BitVec 32 := 3#32
  let v297 : BitVec 32 := Scalar.addi v3 c3_i32_241
  let c4_i32_242 : BitVec 32 := 4#32
  let v298 : BitVec 32 := Scalar.remsi v297 c4_i32_242
  let v383 : BitVec 32 := Scalar.muli c4_i32_305 v298
  let c3_i32_302 : BitVec 32 := 3#32
  let v380 : BitVec 32 := Scalar.addi v2 c3_i32_302
  let c4_i32_303 : BitVec 32 := 4#32
  let v381 : BitVec 32 := Scalar.remsi v380 c4_i32_303
  let v384 : BitVec 32 := Scalar.addi v383 v381
  let c1_i32_309 : BitVec 32 := 1#32
  let v386 : BitVec 32 := Scalar.muli v384 c1_i32_309
  let v387 : BitVec 32 := Scalar.addi c0_i32_310 v386
  v387.toNat
def k0_off4 (d0 : Dev nD) : Fin 3 → Nat :=
  let c12_i32_341 : BitVec 32 := 12#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_339 : BitVec 32 := 0#32
  let v433 : BitVec 32 := Scalar.addi v2 c0_i32_339
  let c4_i32_340 : BitVec 32 := 4#32
  let v434 : BitVec 32 := Scalar.remsi v433 c4_i32_340
  let v435 : BitVec 32 := Scalar.addi c12_i32_341 v434
  let v436 : Index := Scalar.indexCast v435
  let c0_342 : Index := 0#32
  let c0_343 : Index := 0#32
  ![v436.toNat, 0, 0]
def k0_off5 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_344 : BitVec 32 := 256#32
  let v439 : BitVec 32 := Scalar.muli v2 c256_i32_344
  let v440 : Index := Scalar.indexCast v439
  let c0_345 : Index := 0#32
  ![v440.toNat, 0]
def k0_dev28 (d0 : Dev nD) : Nat :=
  let c0_i32_354 : BitVec 32 := 0#32
  let c4_i32_349 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c4_i32_314 : BitVec 32 := 4#32
  let v395 : BitVec 32 := Scalar.addi v3 c4_i32_314
  let c4_i32_315 : BitVec 32 := 4#32
  let v396 : BitVec 32 := Scalar.remsi v395 c4_i32_315
  let v447 : BitVec 32 := Scalar.muli c4_i32_349 v396
  let c1_i32_346 : BitVec 32 := 1#32
  let v444 : BitVec 32 := Scalar.addi v2 c1_i32_346
  let c4_i32_347 : BitVec 32 := 4#32
  let v445 : BitVec 32 := Scalar.remsi v444 c4_i32_347
  let v448 : BitVec 32 := Scalar.addi v447 v445
  let c1_i32_353 : BitVec 32 := 1#32
  let v450 : BitVec 32 := Scalar.muli v448 c1_i32_353
  let v451 : BitVec 32 := Scalar.addi c0_i32_354 v450
  v451.toNat
def k0_dev29 (d0 : Dev nD) : Nat :=
  let c0_i32_366 : BitVec 32 := 0#32
  let c4_i32_361 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c4_i32_314 : BitVec 32 := 4#32
  let v395 : BitVec 32 := Scalar.addi v3 c4_i32_314
  let c4_i32_315 : BitVec 32 := 4#32
  let v396 : BitVec 32 := Scalar.remsi v395 c4_i32_315
  let v462 : BitVec 32 := Scalar.muli c4_i32_361 v396
  let c2_i32_358 : BitVec 32 := 2#32
  let v459 : BitVec 32 := Scalar.addi v2 c2_i32_358
  let c4_i32_359 : BitVec 32 := 4#32
  let v460 : BitVec 32 := Scalar.remsi v459 c4_i32_359
  let v463 : BitVec 32 := Scalar.addi v462 v460
  let c1_i32_365 : BitVec 32 := 1#32
  let v465 : BitVec 32 := Scalar.muli v463 c1_i32_365
  let v466 : BitVec 32 := Scalar.addi c0_i32_366 v465
  v466.toNat
def k0_dev30 (d0 : Dev nD) : Nat :=
  let c0_i32_378 : BitVec 32 := 0#32
  let c4_i32_373 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c4_i32_314 : BitVec 32 := 4#32
  let v395 : BitVec 32 := Scalar.addi v3 c4_i32_314
  let c4_i32_315 : BitVec 32 := 4#32
  let v396 : BitVec 32 := Scalar.remsi v395 c4_i32_315
  let v477 : BitVec 32 := Scalar.muli c4_i32_373 v396
  let c3_i32_370 : BitVec 32 := 3#32
  let v474 : BitVec 32 := Scalar.addi v2 c3_i32_370
  let c4_i32_371 : BitVec 32 := 4#32
  let v475 : BitVec 32 := Scalar.remsi v474 c4_i32_371
  let v478 : BitVec 32 := Scalar.addi v477 v475
  let c1_i32_377 : BitVec 32 := 1#32
  let v480 : BitVec 32 := Scalar.muli v478 c1_i32_377
  let v481 : BitVec 32 := Scalar.addi c0_i32_378 v480
  v481.toNat
def k0_off6 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v494 : Index := Scalar.indexCast v2
  let c0_386 : Index := 0#32
  ![v494.toNat, 0]
def k0_off7 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_393 : BitVec 32 := 0#32
  ![v2.toNat, 0]
def k0_dev31 (d0 : Dev nD) : Nat :=
  let c0_i32_392 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_387 : BitVec 32 := 1#32
  let v498 : BitVec 32 := Scalar.addi v2 c1_i32_387
  let c16_i32_388 : BitVec 32 := 16#32
  let v499 : BitVec 32 := Scalar.remsi v498 c16_i32_388
  let c1_i32_391 : BitVec 32 := 1#32
  let v500 : BitVec 32 := Scalar.muli v499 c1_i32_391
  let v501 : BitVec 32 := Scalar.addi c0_i32_392 v500
  v501.toNat
def k0_dev32 (d0 : Dev nD) : Nat :=
  let c0_i32_399 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_394 : BitVec 32 := 2#32
  let v507 : BitVec 32 := Scalar.addi v2 c2_i32_394
  let c16_i32_395 : BitVec 32 := 16#32
  let v508 : BitVec 32 := Scalar.remsi v507 c16_i32_395
  let c1_i32_398 : BitVec 32 := 1#32
  let v509 : BitVec 32 := Scalar.muli v508 c1_i32_398
  let v510 : BitVec 32 := Scalar.addi c0_i32_399 v509
  v510.toNat
def k0_dev33 (d0 : Dev nD) : Nat :=
  let c0_i32_406 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_401 : BitVec 32 := 3#32
  let v516 : BitVec 32 := Scalar.addi v2 c3_i32_401
  let c16_i32_402 : BitVec 32 := 16#32
  let v517 : BitVec 32 := Scalar.remsi v516 c16_i32_402
  let c1_i32_405 : BitVec 32 := 1#32
  let v518 : BitVec 32 := Scalar.muli v517 c1_i32_405
  let v519 : BitVec 32 := Scalar.addi c0_i32_406 v518
  v519.toNat
def k0_dev34 (d0 : Dev nD) : Nat :=
  let c0_i32_413 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_408 : BitVec 32 := 4#32
  let v525 : BitVec 32 := Scalar.addi v2 c4_i32_408
  let c16_i32_409 : BitVec 32 := 16#32
  let v526 : BitVec 32 := Scalar.remsi v525 c16_i32_409
  let c1_i32_412 : BitVec 32 := 1#32
  let v527 : BitVec 32 := Scalar.muli v526 c1_i32_412
  let v528 : BitVec 32 := Scalar.addi c0_i32_413 v527
  v528.toNat
def k0_dev35 (d0 : Dev nD) : Nat :=
  let c0_i32_420 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_415 : BitVec 32 := 5#32
  let v534 : BitVec 32 := Scalar.addi v2 c5_i32_415
  let c16_i32_416 : BitVec 32 := 16#32
  let v535 : BitVec 32 := Scalar.remsi v534 c16_i32_416
  let c1_i32_419 : BitVec 32 := 1#32
  let v536 : BitVec 32 := Scalar.muli v535 c1_i32_419
  let v537 : BitVec 32 := Scalar.addi c0_i32_420 v536
  v537.toNat
def k0_dev36 (d0 : Dev nD) : Nat :=
  let c0_i32_427 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_422 : BitVec 32 := 6#32
  let v543 : BitVec 32 := Scalar.addi v2 c6_i32_422
  let c16_i32_423 : BitVec 32 := 16#32
  let v544 : BitVec 32 := Scalar.remsi v543 c16_i32_423
  let c1_i32_426 : BitVec 32 := 1#32
  let v545 : BitVec 32 := Scalar.muli v544 c1_i32_426
  let v546 : BitVec 32 := Scalar.addi c0_i32_427 v545
  v546.toNat
def k0_dev37 (d0 : Dev nD) : Nat :=
  let c0_i32_434 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_429 : BitVec 32 := 7#32
  let v552 : BitVec 32 := Scalar.addi v2 c7_i32_429
  let c16_i32_430 : BitVec 32 := 16#32
  let v553 : BitVec 32 := Scalar.remsi v552 c16_i32_430
  let c1_i32_433 : BitVec 32 := 1#32
  let v554 : BitVec 32 := Scalar.muli v553 c1_i32_433
  let v555 : BitVec 32 := Scalar.addi c0_i32_434 v554
  v555.toNat
def k0_dev38 (d0 : Dev nD) : Nat :=
  let c0_i32_441 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_436 : BitVec 32 := 8#32
  let v561 : BitVec 32 := Scalar.addi v2 c8_i32_436
  let c16_i32_437 : BitVec 32 := 16#32
  let v562 : BitVec 32 := Scalar.remsi v561 c16_i32_437
  let c1_i32_440 : BitVec 32 := 1#32
  let v563 : BitVec 32 := Scalar.muli v562 c1_i32_440
  let v564 : BitVec 32 := Scalar.addi c0_i32_441 v563
  v564.toNat
def k0_dev39 (d0 : Dev nD) : Nat :=
  let c0_i32_448 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_443 : BitVec 32 := 9#32
  let v570 : BitVec 32 := Scalar.addi v2 c9_i32_443
  let c16_i32_444 : BitVec 32 := 16#32
  let v571 : BitVec 32 := Scalar.remsi v570 c16_i32_444
  let c1_i32_447 : BitVec 32 := 1#32
  let v572 : BitVec 32 := Scalar.muli v571 c1_i32_447
  let v573 : BitVec 32 := Scalar.addi c0_i32_448 v572
  v573.toNat
def k0_dev40 (d0 : Dev nD) : Nat :=
  let c0_i32_455 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_450 : BitVec 32 := 10#32
  let v579 : BitVec 32 := Scalar.addi v2 c10_i32_450
  let c16_i32_451 : BitVec 32 := 16#32
  let v580 : BitVec 32 := Scalar.remsi v579 c16_i32_451
  let c1_i32_454 : BitVec 32 := 1#32
  let v581 : BitVec 32 := Scalar.muli v580 c1_i32_454
  let v582 : BitVec 32 := Scalar.addi c0_i32_455 v581
  v582.toNat
def k0_dev41 (d0 : Dev nD) : Nat :=
  let c0_i32_462 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_457 : BitVec 32 := 11#32
  let v588 : BitVec 32 := Scalar.addi v2 c11_i32_457
  let c16_i32_458 : BitVec 32 := 16#32
  let v589 : BitVec 32 := Scalar.remsi v588 c16_i32_458
  let c1_i32_461 : BitVec 32 := 1#32
  let v590 : BitVec 32 := Scalar.muli v589 c1_i32_461
  let v591 : BitVec 32 := Scalar.addi c0_i32_462 v590
  v591.toNat
def k0_dev42 (d0 : Dev nD) : Nat :=
  let c0_i32_469 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_464 : BitVec 32 := 12#32
  let v597 : BitVec 32 := Scalar.addi v2 c12_i32_464
  let c16_i32_465 : BitVec 32 := 16#32
  let v598 : BitVec 32 := Scalar.remsi v597 c16_i32_465
  let c1_i32_468 : BitVec 32 := 1#32
  let v599 : BitVec 32 := Scalar.muli v598 c1_i32_468
  let v600 : BitVec 32 := Scalar.addi c0_i32_469 v599
  v600.toNat
def k0_dev43 (d0 : Dev nD) : Nat :=
  let c0_i32_476 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_471 : BitVec 32 := 13#32
  let v606 : BitVec 32 := Scalar.addi v2 c13_i32_471
  let c16_i32_472 : BitVec 32 := 16#32
  let v607 : BitVec 32 := Scalar.remsi v606 c16_i32_472
  let c1_i32_475 : BitVec 32 := 1#32
  let v608 : BitVec 32 := Scalar.muli v607 c1_i32_475
  let v609 : BitVec 32 := Scalar.addi c0_i32_476 v608
  v609.toNat
def k0_dev44 (d0 : Dev nD) : Nat :=
  let c0_i32_483 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_478 : BitVec 32 := 14#32
  let v615 : BitVec 32 := Scalar.addi v2 c14_i32_478
  let c16_i32_479 : BitVec 32 := 16#32
  let v616 : BitVec 32 := Scalar.remsi v615 c16_i32_479
  let c1_i32_482 : BitVec 32 := 1#32
  let v617 : BitVec 32 := Scalar.muli v616 c1_i32_482
  let v618 : BitVec 32 := Scalar.addi c0_i32_483 v617
  v618.toNat
def k0_dev45 (d0 : Dev nD) : Nat :=
  let c0_i32_490 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_485 : BitVec 32 := 15#32
  let v624 : BitVec 32 := Scalar.addi v2 c15_i32_485
  let c16_i32_486 : BitVec 32 := 16#32
  let v625 : BitVec 32 := Scalar.remsi v624 c16_i32_486
  let c1_i32_489 : BitVec 32 := 1#32
  let v626 : BitVec 32 := Scalar.muli v625 c1_i32_489
  let v627 : BitVec 32 := Scalar.addi c0_i32_490 v626
  v627.toNat
abbrev stage0_0 : Fin 1 → Memref sig .tc .vmem S4096x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S4096x2048, .f32⟩
  | .hbm, ⟨9, _⟩ => ⟨S4096x2048, .f32⟩
  | .hbm, ⟨10, _⟩ => ⟨S4096x2048, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S4096x2048, .f32⟩
  | .hbm, ⟨15, _⟩ => ⟨S4096x2048, .f32⟩
  | .hbm, ⟨16, _⟩ => ⟨S_, .f32⟩
  | .hbm, ⟨17, _⟩ => ⟨S4096x2048, .f32⟩
  | .hbm, ⟨18, _⟩ => ⟨S4096x2048, .f32⟩
  | .hbm, ⟨19, _⟩ => ⟨S4096x2048, .f32⟩
  | .hbm, ⟨20, _⟩ => ⟨S4096x2048, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_cst_2 : Ref sig .tc := ⟨.hbm, 12, rfl⟩
abbrev main_call1_v0 : Ref sig .tc := ⟨.hbm, 13, rfl⟩
abbrev main_call1_v1 : Ref sig .tc := ⟨.hbm, 14, rfl⟩
abbrev main_call1_v2 : Ref sig .tc := ⟨.hbm, 15, rfl⟩
abbrev main_call1_v3 : Ref sig .tc := ⟨.hbm, 16, rfl⟩
abbrev main_call1_v4 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩

abbrev nD : Nat := 1
abbrev τ : Topo := Topo.v7x

variable {F : FTy → Type} [FloatOps F]
-- ==== Proof.IdealProtocol.lean ====
/-
# The protocol of the sixteen devices

Device `c` (of group `c / 4`) multiplies its 256 rows of `x` by the four column tiles of `W`, tile `j = 1..4` being the
columns that group `(c / 4 + j) % 4` keeps, and stores each product as four slots of 128 columns. It then

* raises every other device's barrier cell by one, lending with it the 256 rows of its receive buffer that the other
  device will fill and the row of its gather buffer that the other device will fill;
* waits for fifteen units on its own barrier cell, and so holds those rows of every other device;
* copies slot `4 a + q` to the device `4 ((c / 4 + a + 1) % 4) + q` that keeps those columns, into the rows
  `[256 c, 256 c + 256)` there (copy `k = 4 a + b`, `q = (c + b) % 4`; copy 12 would be to itself and is a local store);
* copies its maximum to row `c` of every other device's gather buffer (copy `j`, to device `(c + j) % 16`);
* waits for all its copies to have left and all those addressed to it to have landed.

Each landing hands over the contents landed. This module states the cells, the contents, the schedule of the cells
(who pays what, when, with which payload), what every device owes, and the levels that order the waits.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic
public import Idealize.ShloMosaic.Lib.ShareLeaves
public import Idealize.ShloMosaic.Lib.Ring
public import Idealize.ShloMosaic.Lib.ValueIdxCore
public import Mathlib.Algebra.Order.BigOperators.Group.LocallyFinite

@[expose] public section

set_option maxRecDepth 16384

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ShareLeaves (leaf)
open Idealize.ShloMosaic.ValueIdx (ix2 ix3)
open Idealize.ShloMosaic.Pipeline (Dat Cfg Window BodyObligation cellOf)

variable {F : FTy → Type} [FloatOps F]

/-! ## The resource algebra: the pipeline library's copy and the protocol's (duties `Fin 16`) -/

abbrev UB : Type := URounds (GSem nD τ sig) (Fin 16)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

variable (m : (ℓ : Loc nD τ sig) → Buf (Elt F) ℓ) (ρ : Dev nD → PrngReg)

/-! ## Who sends what to whom -/

set_option backward.proofsInPublic true in
/-- The device `j` places after `c`. -/
def nb (c : Dev nD) (j : ℕ) : Dev nD := ⟨(c.val + j) % 16, Nat.mod_lt _ (by decide)⟩
set_option backward.proofsInPublic true in
/-- The device copy `k` of device `c` goes to. -/
def tgt (c : Dev nD) (k : ℕ) : Dev nD := ⟨4 * ((c.val / 4 + k / 4 + 1) % 4) + (c.val + k % 4) % 4, by show _ < 16; omega⟩
set_option backward.proofsInPublic true in
/-- The device whose copy `k` comes to device `t`. -/
def src (t : Dev nD) (k : ℕ) : Dev nD := ⟨4 * ((t.val / 4 + 7 - k / 4 % 4) % 4) + (t.val + 4 - k % 4) % 4, by show _ < 16; omega⟩
set_option backward.proofsInPublic true in
/-- The slot copy `k` of device `c` takes. -/
def slotOf (c : Dev nD) (k : ℕ) : Fin 16 := ⟨4 * (k / 4 % 4) + (c.val + k % 4) % 4, by omega⟩
set_option backward.proofsInPublic true in
/-- The slot of device `s` that holds the columns device `t` keeps. -/
def slotFor (s t : Dev nD) : Fin 16 := ⟨4 * ((t.val / 4 + 7 - s.val / 4) % 4) + t.val % 4, by omega⟩
/-- The copies that leave the device, in order: all but copy 12. -/
def kk (n : ℕ) : ℕ := if n < 12 then n else n + 1

theorem src_tgt (k : Fin 16) (c : Dev nD) : src (tgt c k) k = c := by revert k c; decide +kernel
theorem tgt_src (k : Fin 16) (c : Dev nD) : tgt (src c k) k = c := by revert k c; decide +kernel
theorem slotFor_tgt (k : Fin 16) (c : Dev nD) : slotFor c (tgt c k) = slotOf c k := by revert k c; decide +kernel
theorem tgt_ne (n : Fin 15) (c : Dev nD) : tgt c (kk n) ≠ c := by revert n c; decide +kernel
theorem nb_ne (n : Fin 15) (c : Dev nD) : nb c (n.val + 1) ≠ c := by revert n c; decide +kernel
theorem nb_back (j : Fin 16) (c : Dev nD) : nb (nb c j) (16 - j.val) = c := by revert j c; decide +kernel
theorem nb_forth (j : Fin 16) (c : Dev nD) : nb (nb c (16 - j.val)) j = c := by revert j c; decide +kernel
theorem tgt_twelve (c : Dev nD) : tgt c 12 = c := by revert c; decide +kernel

/-! ## The cells -/

/-- A device's cells: the barrier, the copy of `x`, the two of the tiles of `W`; and the four families of sixteen: data
    sent, data received, maxima sent, maxima received. -/
abbrev CIx : Type := Fin 4 ⊕ (Fin 4 × Fin 16)

set_option backward.proofsInPublic true in
def semOf : CIx → SemLoc sig
  | .inl i => if i = 0 then .reg barrier0 else .dma ⟨i.val, by have := i.isLt; show i.val < 68; omega⟩
  | .inr (f, k) => .dma ⟨4 + 16 * f.val + k.val, by have := f.isLt; have := k.isLt; show _ < 68; omega⟩

/-- Which cell a semaphore is of. -/
def ixOf : SemLoc sig → Option CIx
  | .reg _ => some (.inl 0)
  | .dma q => if q.val = 0 then none else if q.val < 4 then some (.inl (Fin.ofNat 4 q.val))
      else some (.inr (Fin.ofNat 4 ((q.val - 4) / 16), Fin.ofNat 16 ((q.val - 4) % 16)))

theorem ixOf_semOf : ∀ ix : CIx, ixOf (semOf ix) = some ix := by decide +kernel
theorem semOf_injective : Function.Injective semOf := fun a b h => by
  have := congrArg ixOf h; rw [ixOf_semOf, ixOf_semOf] at this; exact Option.some.inj this

abbrev cell (ck : Dev nD × CIx) : GSem nD τ sig := ((ck.1 : Thread nD τ), semOf ck.2)

theorem cell_injective : Function.Injective cell := by
  rintro ⟨c, k⟩ ⟨c', k'⟩ h
  have h1 : c = c' := congrArg (fun g : GSem nD τ sig => g.1.1) h
  have h2 : k = k' := semOf_injective (congrArg Prod.snd h)
  rw [h1, h2]

abbrev barIx : CIx := .inl 0
abbrev xIx : CIx := .inl 1
abbrev wIx (b : Fin 2) : CIx := .inl (Fin.ofNat 4 (2 + b.val))
abbrev dsIx (k : ℕ) : CIx := .inr (0, Fin.ofNat 16 k)
abbrev drIx (k : ℕ) : CIx := .inr (1, Fin.ofNat 16 k)
abbrev asIx (k : ℕ) : CIx := .inr (2, Fin.ofNat 16 k)
abbrev arIx (k : ℕ) : CIx := .inr (3, Fin.ofNat 16 k)

/-! ## The memrefs -/

abbrev a0M : Memref sig .tc .hbm S256x4096 .f32 := Memref.whole main_arg0
abbrev a1M : Memref sig .tc .hbm S4096x2048 .f32 := Memref.whole main_arg1
abbrev outM : Memref sig .tc .vmem S4096x128 .f32 := Memref.whole cc0_stg0_0
abbrev xM : Memref sig .tc .vmem S256x4096 .f32 := Memref.whole cc0_scratch0
abbrev xbM : Memref sig .tc .vmem S256x4096 .bf16 := Memref.whole cc0_scratch1
abbrev wM : Memref sig .tc .vmem S2x4096x512 .f32 := Memref.whole cc0_scratch2
abbrev yM : Memref sig .tc .vmem S16x256x128 .bf16 := Memref.whole cc0_scratch3
abbrev rM : Memref sig .tc .vmem S4096x128 .bf16 := Memref.whole cc0_scratch4
abbrev aM : Memref sig .tc .vmem S1x128 .f32 := Memref.whole cc0_scratch5
abbrev gM : Memref sig .tc .vmem S16x128 .f32 := Memref.whole cc0_scratch6

/-- The slot at `off` of the product buffer, the block of rows at `off` of the receive buffer, the row at `off` of the
    gather buffer, the slot at `off` of the tile buffer, the tile at `off` of `W`. -/
abbrev ySlice (off : Fin 3 → ℕ) (h : ∀ a, off a + S1x256x128.size a ≤ S16x256x128.size a) : Memref sig .tc .vmem S256x128 .bf16 :=
  (yM.slice (Rect.unit (s := S16x256x128) off S1x256x128.size h) (fun _ => rfl)).squeeze S256x128 squeezes_S1x256x128_S256x128
abbrev rSlice (off : Fin 2 → ℕ) (h : ∀ a, off a + S256x128.size a ≤ S4096x128.size a) : Memref sig .tc .vmem S256x128 .bf16 :=
  rM.slice (Rect.unit (s := S4096x128) off S256x128.size h) (fun _ => rfl)
abbrev gSlice (off : Fin 2 → ℕ) (h : ∀ a, off a + S1x128.size a ≤ S16x128.size a) : Memref sig .tc .vmem S1x128 .f32 :=
  gM.slice (Rect.unit (s := S16x128) off S1x128.size h) (fun _ => rfl)
abbrev wSlice (off : Fin 3 → ℕ) (h : ∀ a, off a + S1x4096x512.size a ≤ S2x4096x512.size a) : Memref sig .tc .vmem S4096x512 .f32 :=
  (wM.slice (Rect.unit (s := S2x4096x512) off S1x4096x512.size h) (fun _ => rfl)).squeeze S4096x512 squeezes_S1x4096x512_S4096x512
abbrev tSlice (off : Fin 2 → ℕ) (h : ∀ a, off a + S4096x512.size a ≤ S4096x2048.size a) : Memref sig .tc .hbm S4096x512 .f32 :=
  a1M.slice (Rect.unit (s := S4096x2048) off S4096x512.size h) (fun _ => rfl)

/-- The elements of slot `p`, of the rows device `s` fills, of the row device `s` fills, of tile slot `b`. -/
def yS (p : Fin 16) : Finset S16x256x128.Idx := Finset.univ.filter fun i => (i 0).val = p.val
def rS (s : Dev nD) : Finset S4096x128.Idx := Finset.univ.filter fun i => (i 0).val / 256 = s.val
def gS (s : Dev nD) : Finset S16x128.Idx := Finset.univ.filter fun i => (i 0).val = s.val
def wS (b : Fin 2) : Finset S2x4096x512.Idx := Finset.univ.filter fun i => (i 0).val = b.val

/-! ## The contents -/

section Contents
variable (c : Dev nD)

/-- Device `c`'s rows of `x`, and rounded. -/
def xv : Vec F S256x4096 .f32 := m ((c : Thread nD τ).loc main_arg0)
def xb : FVec F S256x4096 .bf16 := k0_pay2 (xv m c)
/-- Tile `j` of `W`. -/
def wv (j : ℕ) : Vec F S1x4096x512 .f32 := fun i =>
  (m ((c : Thread nD τ).loc main_arg1) : S4096x2048.Idx → Elt F .f32)
    (ix2 ⟨(i 1).val, (i 1).isLt⟩ ⟨512 * ((c.val / 4 + j) % 4) + (i 2).val, by have : (i 2).val < 512 := (i 2).isLt; omega⟩)
def wCont (j : ℕ) : (cc0_scratch2 : Ref sig .tc).ty.Contents (Elt F) := fun i : S2x4096x512.Idx =>
  wv m c j (ix3 0 ⟨(i 1).val, (i 1).isLt⟩ ⟨(i 2).val, (i 2).isLt⟩)

/-- The product with tile 1, and the running maxima of absolute values. -/
def y1 : FVec F S256x512 .f32 := k0_pay3 (xb m c) (wv m c 1)
def mx1 : F .f32 := k0_pay4 (y1 m c)
def mx2 : F .f32 := k0_pay11 (mx1 m c) (xb m c) (wv m c 2)
def mx3 : F .f32 := k0_pay18 (mx2 m c) (xb m c) (wv m c 3)
def mx4 : F .f32 := k0_pay26 (mx3 m c) (xb m c) (wv m c 4)

/-- What is stored in slot `p`. -/
def slotVal : Fin 16 → FVec F S1x256x128 .bf16
  | 0 => k0_pay6 (y1 m c)
  | 1 => k0_pay7 (y1 m c)
  | 2 => k0_pay8 (y1 m c)
  | 3 => k0_pay9 (y1 m c)
  | 4 => k0_pay13 (xb m c) (wv m c 2)
  | 5 => k0_pay14 (xb m c) (wv m c 2)
  | 6 => k0_pay15 (k0_pay12 (xb m c) (wv m c 2))
  | 7 => k0_pay16 (k0_pay12 (xb m c) (wv m c 2))
  | 8 => k0_pay20 (xb m c) (wv m c 3)
  | 9 => k0_pay22 (k0_pay21 (xb m c) (wv m c 3))
  | 10 => k0_pay23 (k0_pay19 (xb m c) (wv m c 3))
  | 11 => k0_pay24 (k0_pay19 (xb m c) (wv m c 3))
  | 12 => k0_pay28 (xb m c) (wv m c 4)
  | 13 => k0_pay29 (k0_pay27 (xb m c) (wv m c 4))
  | 14 => k0_pay30 (k0_pay27 (xb m c) (wv m c 4))
  | 15 => k0_pay31 (k0_pay27 (xb m c) (wv m c 4))
  | ⟨_ + 16, h⟩ => absurd h (Nat.not_lt.2 (Nat.le_add_left _ _))

def yAll : (cc0_scratch3 : Ref sig .tc).ty.Contents (Elt F) := fun i : S16x256x128.Idx =>
  slotVal m c (i 0) (ix3 0 ⟨(i 1).val, (i 1).isLt⟩ ⟨(i 2).val, (i 2).isLt⟩)

/-- The maximum the device sends, as a row. -/
def amv : FVec F S1x128 .f32 := k0_pay33 (mx4 m c)

/-- The receive buffer of device `c` when every block has landed: rows `[256 s, 256 s + 256)` are the slot of device
    `s` that holds `c`'s columns. -/
def rAll : (cc0_scratch4 : Ref sig .tc).ty.Contents (Elt F) := fun i : S4096x128.Idx =>
  slotVal m ⟨(i 0).val / 256, by have : (i 0).val < 4096 := (i 0).isLt; show _ < 16; omega⟩
    (slotFor ⟨(i 0).val / 256, by have : (i 0).val < 4096 := (i 0).isLt; show _ < 16; omega⟩ c)
    (ix3 0 ⟨(i 0).val % 256, Nat.mod_lt _ (by decide)⟩ ⟨(i 1).val, (i 1).isLt⟩)

/-- The gather buffer when every maximum has landed: row `s` is device `s`'s. -/
def gAll : (cc0_scratch6 : Ref sig .tc).ty.Contents (Elt F) := fun i : S16x128.Idx =>
  mx4 m ⟨(i 0).val, (i 0).isLt⟩

/-- The result of device `c`. -/
def outAt : (cc0_stg0_0 : Ref sig .tc).ty.Contents (Elt F) :=
  k0_pay1 (k0_pay35 (gAll m)) (k0_pay36 (gAll m) (rAll m c)) (Scalar.ofBits .f32 0xC2FE0000#32) (Scalar.ofBits .f32 0x42FE0000#32)

end Contents

/-! ## The schedule -/

/-- The credits of the copies of `x`, of a tile, of a slot, of a maximum. -/
abbrev Nx : ℕ := xM.view.dmaCredit
abbrev Nw : ℕ := (wSlice ![0, 0, 0] inb_S2x4096x512_S1x4096x512_0_0_0).view.dmaCredit
abbrev Nd : ℕ := (rSlice ![0, 0] (by decide)).view.dmaCredit
abbrev Na : ℕ := (gSlice ![0, 0] (by decide)).view.dmaCredit

theorem Nx_pos : 0 < Nx := View.dmaCredit_pos _ (by decide)
theorem Nw_pos : 0 < Nw := View.dmaCredit_pos _ (by decide)
theorem Nd_pos : 0 < Nd := View.dmaCredit_pos _ (by decide)
theorem Na_pos : 0 < Na := View.dmaCredit_pos _ (by decide)

abbrev yPt (c : Dev nD) (p : Fin 16) (f : (cc0_scratch3 : Ref sig .tc).ty.Contents (Elt F)) : sProp 𝕄 :=
  ((c : Thread nD τ).loc cc0_scratch3) ↦[yS p]{fullShare} f
abbrev rPt (c s : Dev nD) (f : (cc0_scratch4 : Ref sig .tc).ty.Contents (Elt F)) : sProp 𝕄 :=
  ((c : Thread nD τ).loc cc0_scratch4) ↦[rS s]{fullShare} f
abbrev gPt (c s : Dev nD) (f : (cc0_scratch6 : Ref sig .tc).ty.Contents (Elt F)) : sProp 𝕄 :=
  ((c : Thread nD τ).loc cc0_scratch6) ↦[gS s]{fullShare} f
abbrev wPt (c : Dev nD) (b : Fin 2) (f : (cc0_scratch2 : Ref sig .tc).ty.Contents (Elt F)) : sProp 𝕄 :=
  ((c : Thread nD τ).loc cc0_scratch2) ↦[wS b]{fullShare} f
/-- One of the sixteen equal shares of the row that is sent. -/
abbrev aPt (c : Dev nD) (k : Fin 16) (f : (cc0_scratch5 : Ref sig .tc).ty.Contents (Elt F)) : sProp 𝕄 :=
  ((c : Thread nD τ).loc cc0_scratch5) ↦{leaf 4 fullShare k} f

/-- Who pays a cell of device `c` in round `r`. -/
def dut (c : Dev nD) : CIx → ℕ → Finset (Fin 16)
  | .inl i, r => if i = 0 then (if r = 0 then Finset.univ.erase c else ∅)
      else if i = 1 then (if r = 0 then {0} else ∅) else if r < 2 then {0} else ∅
  | .inr (f, k), r => if r = 0 ∧ k ≠ (if f.val < 2 then 12 else 0) then {0} else ∅

/-- How much one payment is. -/
def amt : CIx → ℕ
  | .inl i => if i = 0 then 1 else if i = 1 then Nx else Nw
  | .inr (f, _) => if f.val < 2 then Nd else Na

/-- What the payment of `d` hands device `c`. -/
def pay (c : Dev nD) : CIx → ℕ → Fin 16 → sProp 𝕄
  | .inl i, r, d =>
      if i = 0 then iprop((∃ f, rPt d c f) ∗ ∃ f, gPt d c f)
      else if i = 1 then (((c : Thread nD τ).loc cc0_scratch0) ↦{fullShare} xv m c)
      else wPt c (Fin.ofNat 2 i.val) (wCont m c (2 * r + i.val - 1))
  | .inr (f, k), _, _ =>
      if f = 0 then yPt c (slotOf c k) (yAll m c)
      else if f = 1 then rPt c (src c k) (rAll m c)
      else if f = 2 then aPt c k (amv m c)
      else gPt c (nb c (16 - k.val)) (gAll m)

instance pay_storable (c : Dev nD) (ix : CIx) (r : ℕ) (d : Fin 16) : BI.Storable (upEmb : UEmb _ 𝕄) (pay m c ix r d) := by
  rcases ix with i | ⟨f, k⟩ <;> dsimp only [pay] <;> (repeat' split) <;> infer_instance

/-- The cells' schedule. -/
def Rd : Rounds.Schedule (GSem nD τ sig) (Fin 16) 𝕄 where
  duties g r := if g.1.2 = .tc then (ixOf g.2).elim ∅ fun ix => dut g.1.1 ix r else ∅
  unitless _ := False
  amount g _ _ := (ixOf g.2).elim 1 amt
  payload g r d := (ixOf g.2).elim iprop(emp) fun ix => pay m g.1.1 ix r d
  amount_pos g _ _ _ := by
    rcases ixOf g.2 with _ | (i | ⟨f, k⟩)
    · exact Nat.one_pos
    · dsimp only [Option.elim, amt]; (repeat' split)
      · exact Nat.one_pos
      · exact Nx_pos
      · exact Nw_pos
    · dsimp only [Option.elim, amt]; split
      · exact Nd_pos
      · exact Na_pos

instance Rd_payload_storable (g : GSem nD τ sig) (r : ℕ) (d : Fin 16) :
    BI.Storable (upEmb : UEmb _ 𝕄) ((Rd (F := F) m).payload g r d) := by
  show BI.Storable upEmb ((ixOf g.2).elim iprop(emp) fun ix => pay m g.1.1 ix r d)
  rcases ixOf g.2 with _ | ix
  · dsimp only [Option.elim]; infer_instance
  · dsimp only [Option.elim]; infer_instance

theorem duties_cell (c : Dev nD) (ix : CIx) (r : ℕ) : (Rd (F := F) m).duties (cell (c, ix)) r = dut c ix r := by
  dsimp only [Rd, cell]; rw [ixOf_semOf]; rfl
theorem amount_cell (c : Dev nD) (ix : CIx) (r : ℕ) (d : Fin 16) : (Rd (F := F) m).amount (cell (c, ix)) r d = amt ix := by
  dsimp only [Rd, cell]; rw [ixOf_semOf]; rfl
theorem payload_cell (c : Dev nD) (ix : CIx) (r : ℕ) (d : Fin 16) : (Rd (F := F) m).payload (cell (c, ix)) r d = pay m c ix r d := by
  dsimp only [Rd, cell]; rw [ixOf_semOf]; rfl

theorem expect_cell (c : Dev nD) (ix : CIx) (r : ℕ) : (Rd (F := F) m).expect (cell (c, ix)) r = (dut c ix r).card * amt ix := by
  unfold Schedule.expect Schedule.amountOf
  rw [duties_cell, Finset.sum_congr rfl fun d _ => amount_cell m c ix r d, Finset.sum_const, smul_eq_mul]

/-- A cell with one payment in its round: what the round expects, and what it hands over. -/
theorem expect_one (c : Dev nD) (ix : CIx) (r : ℕ) (h : dut c ix r = {0}) : (Rd (F := F) m).expect (cell (c, ix)) r = amt ix := by
  rw [expect_cell, h, Finset.card_singleton, Nat.one_mul]
theorem rest_one (c : Dev nD) (ix : CIx) (r : ℕ) (h : dut c ix r = {0}) :
    bigSep ((Rd (F := F) m).duties (cell (c, ix)) r \ ∅) (fun d => (Rd (F := F) m).payload (cell (c, ix)) r d) = pay m c ix r 0 := by
  rw [Finset.sdiff_empty, duties_cell, h, bigSep_singleton, payload_cell]

theorem dut_later (c : Dev nD) (ix : CIx) (r : ℕ) (h : 2 ≤ r) : dut c ix r = ∅ := by
  rcases ix with i | ⟨f, k⟩
  · dsimp only [dut]; rw [if_neg (show ¬ r = 0 by omega), if_neg (show ¬ r < 2 by omega)]; (repeat' split) <;> first | rfl | omega
  · dsimp only [dut]; rw [if_neg (by omega)]
theorem dut_later_one (c : Dev nD) (ix : CIx) (hix : ix ≠ wIx 0) (hix' : ix ≠ wIx 1) (r : ℕ) (h : 1 ≤ r) : dut c ix r = ∅ := by
  rcases ix with i | ⟨f, k⟩
  · have : i = 0 ∨ i = 1 := by
      have h1 : i ≠ 2 := fun h => hix (congrArg Sum.inl h)
      have h2 : i ≠ 3 := fun h => hix' (congrArg Sum.inl h)
      omega
    rcases this with rfl | rfl
    · dsimp only [dut]; rw [if_pos rfl, if_neg (by omega)]
    · dsimp only [dut]; rw [if_neg (by decide), if_pos rfl, if_neg (by omega)]
  · dsimp only [dut]; rw [if_neg (by omega)]

/-! ## What each device owes; the levels -/

/-- The `i`-th of device `c`'s 45 payments to other devices: to whom, on which cell, how much, under which name. -/
def oweTo (c : Dev nD) (i : ℕ) : Dev nD := if i < 15 then nb c (i + 1) else if i < 30 then tgt c (kk (i - 15)) else nb c (i - 29)
def oweIx (i : ℕ) : CIx := if i < 15 then barIx else if i < 30 then drIx (kk (i - 15)) else arIx (i - 29)
def oweDuty (c : Dev nD) (i : ℕ) : Fin 16 := if i < 15 then c else 0
abbrev oweAmt (i : ℕ) : ℕ := amt (oweIx i)
abbrev oweCell (c : Dev nD) (i : ℕ) : GSem nD τ sig := cell (oweTo c i, oweIx i)

/-- What device `c` owes when its first `n` payments are made. -/
def owe (c : Dev nD) (n : ℕ) : CellTallies nD τ sig Unit := ∑ i ∈ Finset.Ico n 45, tallyAt (oweCell c i) () (oweAmt i)

theorem owe_succ (c : Dev nD) (n : ℕ) (h : n < 45) : owe c n = owe c (n + 1) + tallyAt (oweCell c n) () (oweAmt n) := by
  unfold owe; rw [Finset.sum_eq_sum_Ico_succ_bot h, add_comm]
theorem owe_last (c : Dev nD) : owe c 45 = 0 := by unfold owe; rw [Finset.Ico_self, Finset.sum_empty]

theorem owe_pos {c : Dev nD} {n : ℕ} {g : GSem nD τ sig} {u : Unit} (h : 0 < owe c n g u) :
    ∃ i, n ≤ i ∧ i < 45 ∧ g = oweCell c i := by
  unfold owe at h
  rw [Finset.sum_apply, Finsupp.finset_sum_apply] at h
  obtain ⟨i, hi, hp⟩ := Finset.exists_ne_zero_of_sum_ne_zero (Nat.pos_iff_ne_zero.mp h)
  rw [tallyAt_apply] at hp
  refine ⟨i, (Finset.mem_Ico.mp hi).1, (Finset.mem_Ico.mp hi).2, ?_⟩
  by_contra hg
  exact hp (if_neg fun h' => hg h'.1)

def L (g : GSem nD τ sig) : Finset Unit := if g.1.2 = .tc then {()} else ∅
/-- Barrier cells at 1, receive cells at 2, everything else at 0. -/
def lvl : SemLoc sig → ℕ
  | .reg _ => 1
  | .dma q => if (20 ≤ q.val ∧ q.val < 36) ∨ 52 ≤ q.val then 2 else 0
def lv (g : GSem nD τ sig) (_ : Unit) : ℕ := lvl g.2

theorem L_of_ne (g : GSem nD τ sig) (h : g.1.2 ≠ .tc) : L g = ∅ := if_neg h
theorem L_tc (c : Dev nD) (sm : SemLoc sig) : L ((c : Thread nD τ), sm) = {()} := if_pos rfl

theorem lvl_oweIx (i : Fin 45) : 1 ≤ lvl (semOf (oweIx i)) ∧ (15 ≤ i.val → lvl (semOf (oweIx i)) = 2) := by revert i; decide +kernel

/-- A wait on a cell at a level below those of all that the device still owes. -/
theorem mayWait_owe (c : Dev nD) (sm : SemLoc sig) (n b : ℕ) (hsm : lvl sm ≤ b)
    (hn : ∀ i : Fin 45, n ≤ i.val → b < lvl (semOf (oweIx i))) :
    (levAts L lv : sProp 𝕄) ⊢ MayWait (c : Thread nD τ) sm () (owe c n) :=
  MayOwe.of_cut (L := L) (lev := lv) b (fun p hp => by rw [Finset.mem_singleton.mp hp, L_tc]; exact Finset.mem_singleton_self _)
    (fun g u hg => by obtain ⟨i, -, -, rfl⟩ := owe_pos hg; rw [L_tc]; exact Finset.mem_singleton_self _)
    (fun p hp => by rw [Finset.mem_singleton.mp hp]; exact hsm)
    (fun g u hg => by obtain ⟨i, h1, h2, rfl⟩ := owe_pos hg; exact hn ⟨i, h2⟩ h1)

theorem mayWait_low (c : Dev nD) (sm : SemLoc sig) (n : ℕ) (hsm : lvl sm = 0) :
    (levAts L lv : sProp 𝕄) ⊢ MayWait (c : Thread nD τ) sm () (owe c n) :=
  mayWait_owe c sm n 0 hsm.le fun i _ => (lvl_oweIx i).1

theorem mayWait_bar (c : Dev nD) : (levAts L lv : sProp 𝕄) ⊢ MayWait (c : Thread nD τ) (.reg barrier0) () (owe c 15) :=
  mayWait_owe c (.reg barrier0) 15 1 le_rfl fun i hi => by rw [(lvl_oweIx i).2 hi]; decide

/-! ## The shared records -/

/-- Every cell's invariant, that every cell has reached round 0, and the levels. -/
def records (K : Dev nD × CIx → ℕ) : sProp 𝕄 :=
  iprop((bigSep Finset.univ fun ck : Dev nD × CIx => cellInv ER (Rd m) (K ck) (cell ck))
    ∗ (bigSep Finset.univ fun ck : Dev nD × CIx => reached ER (cell ck) 0) ∗ levAts L lv)

instance records_persistent (K : Dev nD × CIx → ℕ) : BI.Persistent (records m K) := by unfold records; infer_instance

theorem inv_of (K : Dev nD × CIx → ℕ) (ck : Dev nD × CIx) :
    (bigSep Finset.univ fun ck : Dev nD × CIx => (cellInv ER (Rd m) (K ck) (cell ck) : sProp 𝕄)) ⊢ cellInv ER (Rd m) (K ck) (cell ck) :=
  bigSep_elim (Finset.mem_univ ck)
theorem reached_of (ck : Dev nD × CIx) :
    (bigSep Finset.univ fun ck : Dev nD × CIx => (reached ER (cell ck) 0 : sProp 𝕄)) ⊢ reached ER (cell ck) 0 :=
  bigSep_elim (Finset.mem_univ ck)
theorem inv_at (K : Dev nD × CIx → ℕ) (ck : Dev nD × CIx) : records m K ⊢ cellInv ER (Rd m) (K ck) (cell ck) := by
  unfold records; iintro ⟨H, -, -⟩; iapply (inv_of m K ck); iexact H
theorem reached_at (K : Dev nD × CIx → ℕ) (ck : Dev nD × CIx) : records m K ⊢ reached ER (cell ck) 0 := by
  unfold records; iintro ⟨-, H, -⟩; iapply (reached_of (F := F) ck); iexact H
theorem levs_at (K : Dev nD × CIx → ℕ) : records m K ⊢ levAts L lv := by
  unfold records; iintro ⟨-, -, H⟩; iexact H

end Cert.KernelIdeal.Run

end
-- ==== Proof.IdealViews.lean ====
/-
# The windows of the buffers the kernel reads, writes and copies

For each window: which elements it is, and what a store into it or a copy into it leaves there. The contents are the
functions of `IdealProtocol`.
-/
module

public import proofs.«01_k».proof.Proof.IdealProtocol
public import Idealize.ShloMosaic.Lib.ViewIndex
public import Idealize.ShloMosaic.Lib.Pipeline.Value

@[expose] public section

set_option maxRecDepth 16384

noncomputable section

namespace Cert.KernelIdeal.Run

open Cert.KernelIdeal Cert.KernelIdeal.Gen

open Idealize.ShloMosaic
open Idealize.ShloMosaic.TcCoe
open Idealize.ShloMosaic.ValueIdx (ix2 ix3 eq_ix2 eq_ix3)

variable {F : FTy → Type} [FloatOps F]
variable (m : (ℓ : Loc nD τ sig) → Buf (Elt F) ℓ)

/-- A write of a whole view, element by element. -/
theorem write_eq {κ : Kind} {sp : Space} {s : Shape} {e : EltTy} (v : View sig κ sp s e) (f g : v.ty.Contents (Elt F)) (w : s.Idx → Elt F e)
    (h : ∀ x, g (v.emb x) = _root_.cast (congrArg (Elt F) v.elt_eq.symm) (w x)) :
    ∀ i ∈ v.set, v.write (Elt F) f w Finset.univ i = g i := by
  intro i hi
  obtain ⟨x, -, rfl⟩ := Finset.mem_map.mp hi
  rw [View.write_emb_of_mem _ _ (Finset.mem_univ x), h]

/-! ## Which elements -/

section Sets

variable {off3 : Fin 3 → ℕ} {off2 : Fin 2 → ℕ}

abbrev yRect (off : Fin 3 → ℕ) (h : ∀ a, off a + S1x256x128.size a ≤ S16x256x128.size a) : Rect S16x256x128 := Rect.unit off S1x256x128.size h
abbrev rRect (off : Fin 2 → ℕ) (h : ∀ a, off a + S256x128.size a ≤ S4096x128.size a) : Rect S4096x128 := Rect.unit off S256x128.size h
abbrev gRect (off : Fin 2 → ℕ) (h : ∀ a, off a + S1x128.size a ≤ S16x128.size a) : Rect S16x128 := Rect.unit off S1x128.size h
abbrev wRect (off : Fin 3 → ℕ) (h : ∀ a, off a + S1x4096x512.size a ≤ S2x4096x512.size a) : Rect S2x4096x512 := Rect.unit off S1x4096x512.size h

theorem yRect_set {h} (p : Fin 16) (ho : off3 = ![p.val, 0, 0]) : (yRect off3 h).set = yS p := by
  subst ho; ext i
  have h1 : (i 1).val < 256 := (i 1).isLt
  have h2 : (i 2).val < 128 := (i 2).isLt
  rw [Rect.mem_set_unit, yS, Finset.mem_filter, Fin.forall_fin_succ, Fin.forall_fin_succ, Fin.forall_fin_one]
  simp; omega
theorem rRect_set {h} (s : Dev nD) (ho : off2 = ![256 * s.val, 0]) : (rRect off2 h).set = rS s := by
  subst ho; ext i
  have h1 : (i 1).val < 128 := (i 1).isLt
  rw [Rect.mem_set_unit, rS, Finset.mem_filter, Fin.forall_fin_two]
  simp; omega
theorem gRect_set {h} (s : Dev nD) (ho : off2 = ![s.val, 0]) : (gRect off2 h).set = gS s := by
  subst ho; ext i
  have h1 : (i 1).val < 128 := (i 1).isLt
  rw [Rect.mem_set_unit, gS, Finset.mem_filter, Fin.forall_fin_two]
  simp; omega
theorem wRect_set {h} (b : Fin 2) (ho : off3 = ![b.val, 0, 0]) : (wRect off3 h).set = wS b := by
  subst ho; ext i
  have h1 : (i 1).val < 4096 := (i 1).isLt
  have h2 : (i 2).val < 512 := (i 2).isLt
  rw [Rect.mem_set_unit, wS, Finset.mem_filter, Fin.forall_fin_succ, Fin.forall_fin_succ, Fin.forall_fin_one]
  simp; omega

theorem yAcc_set {h} (p : Fin 16) (ho : off3 = ![p.val, 0, 0]) : (yM.access (yRect off3 h)).set = yS p :=
  (View.set_slice_whole cc0_scratch3 _).trans (yRect_set p ho)
theorem ySlice_set {h} (p : Fin 16) (ho : off3 = ![p.val, 0, 0]) : (ySlice off3 h).view.set = yS p :=
  (View.set_reshape _ _).trans (yAcc_set p ho)
theorem rSlice_set {h} (s : Dev nD) (ho : off2 = ![256 * s.val, 0]) : (rSlice off2 h).view.set = rS s :=
  (View.set_slice_whole cc0_scratch4 _).trans (rRect_set s ho)
theorem gSlice_set {h} (s : Dev nD) (ho : off2 = ![s.val, 0]) : (gSlice off2 h).view.set = gS s :=
  (View.set_slice_whole cc0_scratch6 _).trans (gRect_set s ho)
theorem wAcc_set {h} (b : Fin 2) (ho : off3 = ![b.val, 0, 0]) : (wM.access (wRect off3 h)).set = wS b :=
  (View.set_slice_whole cc0_scratch2 _).trans (wRect_set b ho)
theorem wSlice_set {h} (b : Fin 2) (ho : off3 = ![b.val, 0, 0]) : (wSlice off3 h).view.set = wS b :=
  (View.set_reshape _ _).trans (wAcc_set b ho)

/-! ## Where an index of a window lies -/

theorem yRect_emb {h} (p : Fin 16) (ho : off3 = ![p.val, 0, 0]) (x : (yRect off3 h).shape.Idx) :
    (yRect off3 h).emb x = (ix3 p ⟨(x 1).val, (x 1).isLt⟩ ⟨(x 2).val, (x 2).isLt⟩ : S16x256x128.Idx) := by
  subst ho
  have h0 : (x 0).val < 1 := (x 0).isLt
  exact Shape.idx3_ext (by show p.val + 1 * (x 0).val = p.val; omega) (by show 0 + 1 * (x 1).val = (x 1).val; omega)
    (by show 0 + 1 * (x 2).val = (x 2).val; omega)
theorem wRect_emb {h} (b : Fin 2) (ho : off3 = ![b.val, 0, 0]) (x : (wRect off3 h).shape.Idx) :
    (wRect off3 h).emb x = (ix3 b ⟨(x 1).val, (x 1).isLt⟩ ⟨(x 2).val, (x 2).isLt⟩ : S2x4096x512.Idx) := by
  subst ho
  have h0 : (x 0).val < 1 := (x 0).isLt
  exact Shape.idx3_ext (by show b.val + 1 * (x 0).val = b.val; omega) (by show 0 + 1 * (x 1).val = (x 1).val; omega)
    (by show 0 + 1 * (x 2).val = (x 2).val; omega)
theorem ySlice_emb {h} (p : Fin 16) (ho : off3 = ![p.val, 0, 0]) (x : S256x128.Idx) :
    (ySlice off3 h).view.emb x = (ix3 p (x 0) (x 1) : S16x256x128.Idx) := by
  show (yRect off3 h).emb (Shape.reshapeEquiv _ x) = _
  rw [yRect_emb p ho, Shape.reshapeEquiv_cons_one]
  rfl
theorem wSlice_emb {h} (b : Fin 2) (ho : off3 = ![b.val, 0, 0]) (x : S4096x512.Idx) :
    (wSlice off3 h).view.emb x = (ix3 b (x 0) (x 1) : S2x4096x512.Idx) := by
  show (wRect off3 h).emb (Shape.reshapeEquiv _ x) = _
  rw [wRect_emb b ho, Shape.reshapeEquiv_cons_one]
  rfl
theorem idx2_ext {d : Fin 2 → ℕ} {x y : (⟨2, d⟩ : Shape).Idx} (h0 : (x 0).val = (y 0).val) (h1 : (x 1).val = (y 1).val) : x = y :=
  funext fun a => by
    match a with
    | ⟨0, _⟩ => exact Fin.ext h0
    | ⟨1, _⟩ => exact Fin.ext h1
theorem rRect_emb {h} (s : Dev nD) (ho : off2 = ![256 * s.val, 0]) (x : (rRect off2 h).shape.Idx) :
    (rRect off2 h).emb x = (ix2 ⟨256 * s.val + (x 0).val, by have : (x 0).val < 256 := (x 0).isLt; have : s.val < 16 := s.isLt; omega⟩ ⟨(x 1).val, (x 1).isLt⟩ : S4096x128.Idx) := by
  subst ho
  exact idx2_ext (by show 256 * s.val + 1 * (x 0).val = _; rw [Nat.one_mul]) (by show 0 + 1 * (x 1).val = _; rw [Nat.zero_add, Nat.one_mul])
theorem gRect_emb {h} (s : Dev nD) (ho : off2 = ![s.val, 0]) (x : (gRect off2 h).shape.Idx) :
    (gRect off2 h).emb x = (ix2 ⟨s.val, s.isLt⟩ ⟨(x 1).val, (x 1).isLt⟩ : S16x128.Idx) := by
  subst ho
  have h0 : (x 0).val < 1 := (x 0).isLt
  exact idx2_ext (by show s.val + 1 * (x 0).val = s.val; omega) (by show 0 + 1 * (x 1).val = _; rw [Nat.zero_add, Nat.one_mul])

end Sets

/-! ## What is left there -/

section Contents

variable (c : Dev nD) {off3 : Fin 3 → ℕ} {off2 off2' : Fin 2 → ℕ}

/-- A product slot stored. -/
theorem y_store {h} (p : Fin 16) (ho : off3 = ![p.val, 0, 0]) (f : (cc0_scratch3 : Ref sig .tc).ty.Contents (Elt F)) :
    ∀ i ∈ yS p, (yM.access (yRect off3 h)).write (Elt F) f (slotVal m c p) Finset.univ i = yAll m c i := by
  rw [← yAcc_set (h := h) p ho]
  refine write_eq (yM.access (yRect off3 h)) f (yAll m c) _ fun x => ?_
  show yAll m c ((yRect off3 h).emb x) = slotVal m c p x
  rw [yRect_emb p ho]
  exact congrArg (slotVal m c p) (Shape.idx3_ext (by have : (x 0).val < 1 := (x 0).isLt; show 0 = (x 0).val; omega) rfl rfl)

/-- A product slot read. -/
theorem y_read {h} (p : Fin 16) (ho : off3 = ![p.val, 0, 0]) : (yM.access (yRect off3 h)).read (Elt F) (yAll m c) = slotVal m c p := by
  funext x
  show yAll m c ((yRect off3 h).emb x) = slotVal m c p x
  rw [yRect_emb p ho]
  exact congrArg (slotVal m c p) (Shape.idx3_ext (by have : (x 0).val < 1 := (x 0).isLt; show 0 = (x 0).val; omega) rfl rfl)

theorem rAll_apply (t s : Dev nD) (a : Fin 256) (b : Fin 128) (h : 256 * s.val + a.val < 4096) :
    rAll m t (ix2 ⟨256 * s.val + a.val, h⟩ b : S4096x128.Idx) = slotVal m s (slotFor s t) (ix3 0 a b) := by
  have hs : (⟨(256 * s.val + a.val) / 256, by show _ < 16; omega⟩ : Dev nD) = s := Fin.ext (by show (256 * s.val + a.val) / 256 = s.val; omega)
  have ha : (⟨(256 * s.val + a.val) % 256, Nat.mod_lt _ (by decide)⟩ : Fin 256) = a := Fin.ext (by show (256 * s.val + a.val) % 256 = a.val; omega)
  show slotVal m ⟨(256 * s.val + a.val) / 256, _⟩ (slotFor ⟨(256 * s.val + a.val) / 256, _⟩ t) (ix3 0 ⟨(256 * s.val + a.val) % 256, _⟩ b) = _
  rw [hs, ha]

/-- A block landed in the receive buffer of device `t`. -/
theorem r_copy {h h'} (t s : Dev nD) (p : Fin 16) (hp : slotFor s t = p) (ho : off2 = ![256 * s.val, 0]) (ho' : off3 = ![p.val, 0, 0])
    (f : (cc0_scratch4 : Ref sig .tc).ty.Contents (Elt F)) :
    ∀ i ∈ rS s, (rSlice off2 h).view.write (Elt F) f ((ySlice off3 h').view.read (Elt F) (yAll m s)) Finset.univ i = rAll m t i := by
  rw [← rSlice_set (h := h) s ho]
  refine write_eq (rSlice off2 h).view f (rAll m t) _ fun x => ?_
  show rAll m t ((rRect off2 h).emb x) = yAll m s ((ySlice off3 h').view.emb x)
  rw [rRect_emb s ho, ySlice_emb p ho', rAll_apply m t s ⟨(x 0).val, (x 0).isLt⟩, hp]
  rfl

/-- The device's own block stored in its receive buffer. -/
theorem r_store {h} (p : Fin 16) (hp : slotFor c c = p) (ho : off2 = ![256 * c.val, 0]) (f : (cc0_scratch4 : Ref sig .tc).ty.Contents (Elt F)) :
    ∀ i ∈ rS c, (rM.access (rRect off2 h)).write (Elt F) f (k0_pay32 (slotVal m c p)) Finset.univ i = rAll m c i := by
  rw [← rSlice_set (h := h) c ho]
  refine write_eq (rM.access (rRect off2 h)) f (rAll m c) _ fun x => ?_
  show rAll m c ((rRect off2 h).emb x) = k0_pay32 (slotVal m c p) x
  rw [rRect_emb c ho, rAll_apply m c c ⟨(x 0).val, (x 0).isLt⟩, hp]
  unfold k0_pay32
  show slotVal m c p _ = shapeCast S256x128 (shapeCast S256x128 (slotVal m c p) shapeCasts_S1x256x128_S256x128) _ x
  rw [shapeCast_self]
  show _ = slotVal m c p (Shape.reshapeEquiv _ x)
  rw [Shape.reshapeEquiv_cons_one]
  exact congrArg (slotVal m c p) (Shape.idx3_ext rfl rfl rfl)

theorem amv_apply (s : Dev nD) (x : S1x128.Idx) : amv m s x = mx4 m s := by
  unfold amv k0_pay33
  show shapeCast S1x128 (broadcast S1x128 (mx4 m s)) _ x = _
  rw [shapeCast_self]; rfl

/-- The device's own maximum stored in its gather buffer. -/
theorem g_store {h} (ho : off2 = ![c.val, 0]) (f : (cc0_scratch6 : Ref sig .tc).ty.Contents (Elt F)) :
    ∀ i ∈ gS c, (gM.access (gRect off2 h)).write (Elt F) f (k0_pay34 (amv m c)) Finset.univ i = gAll m i := by
  rw [← gSlice_set (h := h) c ho]
  refine write_eq (gM.access (gRect off2 h)) f (gAll m) _ fun x => ?_
  show gAll m ((gRect off2 h).emb x) = k0_pay34 (amv m c) x
  rw [gRect_emb c ho]
  unfold k0_pay34
  show _ = shapeCast S1x128 (amv m c) _ x
  rw [shapeCast_self, amv_apply]; rfl

/-- A maximum landed in a gather buffer. -/
theorem g_copy {h} (s : Dev nD) (ho : off2 = ![s.val, 0]) (f : (cc0_scratch6 : Ref sig .tc).ty.Contents (Elt F)) :
    ∀ i ∈ gS s, (gSlice off2 h).view.write (Elt F) f (aM.view.read (Elt F) (amv m s)) Finset.univ i = gAll m i := by
  rw [← gSlice_set (h := h) s ho]
  refine write_eq (gSlice off2 h).view f (gAll m) _ fun x => ?_
  show gAll m ((gRect off2 h).emb x) = amv m s x
  rw [gRect_emb s ho, amv_apply]; rfl

/-- A tile of `W` landed in a tile slot. -/
theorem w_copy {h h'} (b : Fin 2) (j : ℕ) (ho : off3 = ![b.val, 0, 0]) (ho' : off2 = ![0, 512 * ((c.val / 4 + j) % 4)])
    (f : (cc0_scratch2 : Ref sig .tc).ty.Contents (Elt F)) :
    ∀ i ∈ wS b, (wSlice off3 h).view.write (Elt F) f ((tSlice off2 h').view.read (Elt F) (m ((c : Thread nD τ).loc main_arg1))) Finset.univ i
      = wCont m c j i := by
  rw [← wSlice_set (h := h) b ho]
  refine write_eq (wSlice off3 h).view f (wCont m c j) _ fun x => ?_
  show wCont m c j ((wSlice off3 h).view.emb x) = m ((c : Thread nD τ).loc main_arg1) ((Rect.unit (s := S4096x2048) off2 S4096x512.size h').emb x)
  subst ho'
  rw [wSlice_emb b ho]
  refine congrArg (m ((c : Thread nD τ).loc main_arg1)) (idx2_ext (d := ![4096, 2048]) ?_ ?_)
  · show (x 0).val = 0 + 1 * (x 0).val; omega
  · show 512 * ((c.val / 4 + j) % 4) + (x 1).val = 512 * ((c.val / 4 + j) % 4) + 1 * (x 1).val; omega

/-- A tile slot read. -/
theorem w_read {h} (b : Fin 2) (j : ℕ) (ho : off3 = ![b.val, 0, 0]) : (wM.access (wRect off3 h)).read (Elt F) (wCont m c j) = wv m c j := by
  funext x
  show wCont m c j ((wRect off3 h).emb x) = wv m c j x
  rw [wRect_emb b ho]
  exact congrArg (wv m c j) (Shape.idx3_ext (by have : (x 0).val < 1 := (x 0).isLt; show 0 = (x 0).val; omega) rfl rfl)

end Contents

end Cert.KernelIdeal.Run

end
-- ==== Proof.IdealSteps.lean ====
/-
# The steps of a device

One lemma for each kind of step of the kernel: raising a barrier cell, waiting at the barrier, copying a slot or a maximum
to another device, copying `x` or a tile of `W` in, waiting for a copy. What a device holds is kept as runs over the numbers
of the payments still to make (`Ico n 45`), so that one lemma serves every payment of a kind.
-/
module

public import proofs.«01_k».proof.Proof.IdealViews
public import Idealize.SL.BI.BigOpNat

@[expose] public section

set_option maxRecDepth 16384

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ShareLeaves (leaf pointsTo_leaves)

variable {F : FTy → Type} [FloatOps F]

local notation "𝕄" => MT nD τ sig Unit (Elt F) ℕ UU ℕ

variable (m : (ℓ : Loc nD τ sig) → Buf (Elt F) ℓ)

/-- A program of device `c`, its postcondition. -/
abbrev Runs (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## Runs over an interval -/

theorem run_pop {a b : ℕ} (h : a < b) (A : ℕ → sProp 𝕄) :
    bigSep (Finset.Ico a b) A ⊢ iprop(A a ∗ bigSep (Finset.Ico (a + 1) b) A) := Entails.of_eq (bigSep_Ico_succ_bot h A)
theorem run_push {a b : ℕ} (h : a ≤ b) (A : ℕ → sProp 𝕄) :
    iprop(A b ∗ bigSep (Finset.Ico a b) A) ⊢ bigSep (Finset.Ico a (b + 1)) A := Entails.of_eq (bigSep_Ico_succ_top h A).symm
theorem run_none {a b : ℕ} (h : b ≤ a) (A : ℕ → sProp 𝕄) : (iprop(emp) : sProp 𝕄) ⊢ bigSep (Finset.Ico a b) A := by
  rw [Finset.Ico_eq_empty (by omega), bigSep_empty]; exact Entails.refl _

/-! ## What a device holds -/

section State
variable (K : Dev nD × CIx → ℕ) (c : Dev nD)

/-- The cell by which payment `i` tells its payer that the copy has left. -/
def sendIx (i : ℕ) : CIx := if i < 30 then dsIx (kk (i - 15)) else asIx (i - 29)

/-- What is owed when `n` payments are made. -/
def ow (n : ℕ) : sProp 𝕄 := iprop(∃ W, owes (c : Thread nD τ) (owe c n) W)

/-- The right to make payment `i`. -/
def payTok (i : ℕ) : sProp 𝕄 :=
  iprop(dutyTok ER (oweCell c i) 0 (oweDuty c i) ∗ (if i < 15 then iprop(emp) else dutyTok ER (cell (c, sendIx i)) 0 0))
/-- What payment `i` leaves to wait for. -/
def sentCred (i : ℕ) : sProp 𝕄 := cred (tallyAt (cell (c, sendIx i)) () (amt (sendIx i)))

/-- The protocol's state when `n` payments are made. -/
def St (n : ℕ) : sProp 𝕄 :=
  iprop(records m K ∗ ow c n ∗ bigSep (Finset.Ico n 45) (payTok (F := F) c) ∗ bigSep (Finset.Ico 15 n) (sentCred (F := F) c))

/-- What is still to be lent at the barrier when `n` payments are made. -/
def Ln (n : ℕ) : sProp 𝕄 :=
  bigSep (Finset.Ico n 15) fun i => iprop((∃ f, rPt (F := F) c (nb c (i + 1)) f) ∗ ∃ f, gPt (F := F) c (nb c (i + 1)) f)
/-- What is still to be filled in the receive buffers of the others when `n` payments are made. -/
def Rt (n : ℕ) : sProp 𝕄 := bigSep (Finset.Ico n 30) fun i => iprop(∃ f, rPt (F := F) (tgt c (kk (i - 15))) c f)
/-- What is still to be filled in the gather buffers of the others when `n` payments are made, and the shares of the row
    to be copied there. -/
def Gt (n : ℕ) : sProp 𝕄 := bigSep (Finset.Ico n 45) fun i => iprop(∃ f, gPt (F := F) (nb c (i - 29)) c f)
def Ap (n : ℕ) : sProp 𝕄 := bigSep (Finset.Ico n 45) fun i => aPt c (Fin.ofNat 16 (i - 29)) (amv m c)

end State

/-! ## Waits and copies -/

section Steps
variable (K : Dev nD × CIx → ℕ) (c : Dev nD) {α : Type} {Q : α → sProp (MT nD τ sig Unit (Elt F) ℕ UU ℕ)} {k : PUnit → Prog (TpuEff nD τ sig (Elt F) Λ₀ .tc) α}

/-- A cell whose rounds are over is closed. -/
theorem close_cell (ix : CIx) (r : ℕ) (h : ∀ r', r ≤ r' → dut c ix r' = ∅) :
    iprop(records m K ∗ atPos ER (cell (c, ix)) r ∅ 0) ⊢ iprop(|={Set.univ}=> semVal (cell (c, ix)) 0) := by
  iintro ⟨#Hr, Hat⟩
  ihave Hg := (inv_at m K (c, ix)) $$ Hr
  imod (Rounds.cell_close ER (Rd m) (Set.mem_univ (K (c, ix))) (fun h => h) (R := r)
    (fun r' hr' => (duties_cell m c ix r').trans (h r' hr'))) $$ [Hg Hat] with Hz
  · isplitl [Hg] <;> iassumption
  imodintro
  iexact Hz

/-- A wait for a copy: the cell of `ix`, one payment in round `r`. -/
theorem wait_cell (ix : CIx) (r : ℕ) (hd : dut c ix r = {0}) (n : ℕ) (hl : lvl (semOf ix) = 0 ∨ n = 45)
    {sem : DmaSem sig} (hS : SemLoc.dma sem = semOf ix) {sp sp' : Space} {s s' : Shape} {e e' : EltTy} {κ : Kind}
    {srcm : Memref sig .tc sp' s' e'} {dstm : Memref sig κ sp s e} {h : srcm.view.WordExact} {h' : dstm.view.WordExact}
    (hN : dstm.view.dmaCredit = amt ix) :
    iprop(records m K ∗ ow c n ∗ cred (tallyAt (cell (c, ix)) () (amt ix)) ∗ atPos ER (cell (c, ix)) r ∅ 0)
      ⊢ iprop(((ow c n ∗ atPos ER (cell (c, ix)) (r + 1) ∅ 0 ∗ reached ER (cell (c, ix)) (r + 1) ∗ pay m c ix r 0) -∗ Runs c (k ⟨⟩) Q)
          -∗ Runs c (.op (.waitDma2 sem srcm dstm h h') k) Q) := by
  have hcell : cell (c, ix) = ((c : Thread nD τ), SemLoc.dma sem) := by rw [hS]
  have hex := expect_one m c ix r hd
  have hre := rest_one m c ix r hd
  have hin := inv_at m K (c, ix)
  have hlow := mayWait_low (F := F) c (semOf ix) n
  rw [hcell] at hex hre hin ⊢
  rw [← hN] at hex ⊢
  unfold ow
  iintro ⟨#Hr, ⟨%W, HO⟩, Hc, Hat⟩ Hk
  ihave Hg := hin $$ Hr
  ihave Hl := (levs_at m K) $$ Hr
  iapply (Rounds.wp_wait_rest_token 𝒱₀ ER (Rd m) (c : Thread nD τ) none (κ := K (c, ix)) (wpE_waitDma2_eq 𝒱₀ (c : Thread nD τ) none Set.univ) (Set.mem_univ _) ()
    (O := owe c n) (W := W) (R := r) (m := 0) (T := ∅) (by rw [hex, Nat.zero_add])) $$ [Hg Hc HO Hat Hl]
  · isplitl [Hg]; · iexact Hg
    isplitl [Hc]; · iexact Hc
    isplitl [HO]; · iexact HO
    isplitl [Hl]
    · rcases hl with hl | rfl
      · rw [hS]; iapply (hlow hl); iexact Hl
      · rw [owe_last, MayWait_zero]; iempintro
    · iexact Hat
  iintro ⟨HO, Hat, Hre, Hp⟩
  ihave Hp := (Entails.of_eq hre) $$ Hp
  iapply Hk
  isplitl [HO]; · iexists _; iexact HO
  isplitl [Hat]; · iexact Hat
  isplitl [Hre]; · iexact Hre
  iexact Hp

/-- The barrier wait: every other device has lent what this one will fill there. -/
theorem wait_bar :
    iprop(records m K ∗ ow c 15 ∗ cred (tallyAt (cell (c, barIx)) () 15) ∗ atPos ER (cell (c, barIx)) 0 ∅ 0)
      ⊢ iprop(((ow c 15 ∗ atPos ER (cell (c, barIx)) 1 ∅ 0
            ∗ bigSep (Finset.univ.erase c) fun d : Fin 16 => iprop((∃ f, rPt (F := F) d c f) ∗ ∃ f, gPt (F := F) d c f)) -∗ Runs c (k ⟨⟩) Q)
          -∗ Runs c (.op (.semWait barrier0 15) k) Q) := by
  unfold ow
  iintro ⟨#Hr, ⟨%W, HO⟩, Hc, Hat⟩ Hk
  ihave Hg := (inv_at m K (c, barIx)) $$ Hr
  ihave Hl := (levs_at m K) $$ Hr
  iapply (Rounds.wp_wait_rest_token 𝒱₀ ER (Rd m) (c : Thread nD τ) none (κ := K (c, barIx)) (wpE_semWait_eq 𝒱₀ (c : Thread nD τ) none Set.univ) (Set.mem_univ _) ()
    (O := owe c 15) (W := W) (R := 0) (m := 0) (T := ∅)
    (show 0 + 15 = (Rd m).expect (cell (c, barIx)) 0 by rw [expect_cell]; revert c; decide)) $$ [Hg Hc HO Hat Hl]
  · isplitl [Hg]; · iexact Hg
    isplitl [Hc]; · iexact Hc
    isplitl [HO]; · iexact HO
    isplitl [Hl]
    · iapply (mayWait_bar (F := F) c); iexact Hl
    · iexact Hat
  iintro ⟨HO, Hat, -, Hp⟩
  iapply Hk
  isplitl [HO]; · iexists _; iexact HO
  isplitl [Hat]; · iexact Hat
  have e : bigSep ((Rd (F := F) m).duties (cell (c, barIx)) 0 \ ∅) (fun d => (Rd (F := F) m).payload (cell (c, barIx)) 0 d)
      = bigSep (Finset.univ.erase c) fun d : Fin 16 => iprop((∃ f, rPt (F := F) d c f) ∗ ∃ f, gPt (F := F) d c f) := by
    rw [Finset.sdiff_empty, duties_cell]
    exact bigSep_congr fun d _ => payload_cell m c barIx 0 d
  iapply (Entails.of_eq e); iexact Hp

/-- The copy of the device's rows of `x` begins. -/
theorem x_begin {hsrc : a0M.view.WordExact} {hdst : xM.view.WordExact} {sem : DmaSem sig} (hS : sem = (⟨1, by decide⟩ : DmaSem sig))
    {hsem : DmaTarget.Typed .hbm (.dma sem) (.here xM : DmaTarget nD τ sig .tc .vmem S256x4096 .f32)} (q : PosShare TreeShare) :
    iprop(records m K ∗ (((c : Thread nD τ).loc main_arg0) ↦{q} xv m c) ∗ (∃ f : (cc0_scratch0 : Ref sig .tc).ty.Contents (Elt F), ((c : Thread nD τ).loc cc0_scratch0) ↦{fullShare} f)
        ∗ dutyTok ER (cell (c, xIx)) 0 0)
      ⊢ iprop((cred (tallyAt (cell (c, xIx)) () (amt xIx)) -∗ Runs c (k ⟨⟩) Q)
          -∗ Runs c (.op (.enqueueDma a0M (.here xM) (.dma sem) hsrc hdst hsem) k) Q) := by
  subst hS
  iintro ⟨#Hr, Ha, ⟨%f, Hx⟩, Ht⟩ Hk
  ihave Hg := (inv_at m K (c, xIx)) $$ Hr
  ihave Hre := (reached_at m K (c, xIx)) $$ Hr
  iapply (Rounds.wp_copy_pointsTo 𝒱₀ ER (Rd m) (c : Thread nD τ) none (src := a0M) (dst := xM) (κ := K (c, xIx)) (fs := xv m c) (fd := f) (q := q) (r := 0) (d := 0)
    (by rw [show ((c : Thread nD τ), semOf (c, xIx).2) = cell (c, xIx) from rfl, duties_cell]; exact Finset.mem_singleton_self _) () (amt xIx) rfl
    (amount_cell m c xIx 0 0)
    (by
      rw [show ((c : Thread nD τ), semOf (c, xIx).2) = cell (c, xIx) from rfl, payload_cell]
      rw [show xM.view.write (Elt F) f (a0M.view.read (Elt F) (xv m c)) Finset.univ = xv m c from by
        simp only [Memref.view_whole, View.read_whole]; exact View.write_whole_univ ..]
      rw [show (xM.view.set : Finset _) = Finset.univ from View.set_whole _]
      show iprop((((c : Thread nD τ).loc cc0_scratch0) ↦{fullShare} xv m c) ∗ _) ⊢ (((c : Thread nD τ).loc cc0_scratch0) ↦{fullShare} xv m c)
      iintro ⟨H, -⟩
      iexact H)) $$ [Hg Hre Ha Hx Ht]
  · isplitl [Hg]; · iexact Hg
    isplitl [Ha]; · rw [show (a0M.view.set : Finset _) = Finset.univ from View.set_whole _]; iexact Ha
    isplitl [Hx]; · rw [show (xM.view.set : Finset _) = Finset.univ from View.set_whole _]; iexact Hx
    isplitl [Ht] <;> iassumption
  iexact Hk

/-- The copy of tile `j = 2 r + b + 1` of `W` into tile slot `b` begins. -/
theorem w_begin (b : Fin 2) (r : ℕ) (hr : r < 2) {off3 : Fin 3 → ℕ} {off2 : Fin 2 → ℕ}
    {h3 : ∀ a, off3 a + S1x4096x512.size a ≤ S2x4096x512.size a} {h2 : ∀ a, off2 a + S4096x512.size a ≤ S4096x2048.size a}
    (ho : off3 = ![b.val, 0, 0]) (ho' : off2 = ![0, 512 * ((c.val / 4 + (2 * r + b.val + 1)) % 4)])
    {hsrc : (tSlice off2 h2).view.WordExact} {hdst : (wSlice off3 h3).view.WordExact} {sem : SemLoc sig} (hS : sem = semOf (wIx b))
    {hsem : DmaTarget.Typed .hbm sem (.here (wSlice off3 h3) : DmaTarget nD τ sig .tc .vmem S4096x512 .f32)} (q : PosShare TreeShare) :
    iprop(records m K ∗ (((c : Thread nD τ).loc main_arg1) ↦{q} m ((c : Thread nD τ).loc main_arg1)) ∗ (∃ f, wPt c b f)
        ∗ dutyTok ER (cell (c, wIx b)) r 0 ∗ reached ER (cell (c, wIx b)) r)
      ⊢ iprop((cred (tallyAt (cell (c, wIx b)) () (amt (wIx b))) -∗ Runs c (k ⟨⟩) Q)
          -∗ Runs c (.op (.enqueueDma (tSlice off2 h2) (.here (wSlice off3 h3)) sem hsrc hdst hsem) k) Q) := by
  subst hS
  iintro ⟨#Hr, Ha, ⟨%f, Hx⟩, Ht, Hre⟩ Hk
  ihave Hg := (inv_at m K (c, wIx b)) $$ Hr
  have hset : (wSlice off3 h3).view.set = wS b := wSlice_set b ho
  icases ((pointsTo_split_subset (Finset.subset_univ (tSlice off2 h2).view.set)).1) $$ Ha with ⟨Ha, -⟩
  iapply (Rounds.wp_copy_pointsTo 𝒱₀ ER (Rd m) (c : Thread nD τ) none (src := tSlice off2 h2) (dst := wSlice off3 h3) (κ := K (c, wIx b))
    (fs := m ((c : Thread nD τ).loc main_arg1)) (fd := f) (q := q) (r := r) (d := 0) (sem := semOf (wIx b))
    (by
      rw [show ((c : Thread nD τ), semOf (wIx b)) = cell (c, wIx b) from rfl, duties_cell]
      have : ∀ (b : Fin 2) (r : Fin 2) (c : Dev nD), (0 : Fin 16) ∈ dut c (wIx b) r.val := by decide
      exact this b ⟨r, hr⟩ c) () (amt (wIx b))
    (by fin_cases b <;> rfl)
    (amount_cell m c (wIx b) r 0)
    (by
      rw [show ((c : Thread nD τ), semOf (wIx b)) = cell (c, wIx b) from rfl, payload_cell]
      have e : pay m c (wIx b) r 0 = wPt c b (wCont m c (2 * r + b.val + 1)) := by
        fin_cases b <;> rfl
      rw [e, hset, pointsTo_congr (w_copy m c b (2 * r + b.val + 1) ho ho' f)]
      iintro ⟨H, -⟩
      iexact H)) $$ [Hg Hre Ha Hx Ht]
  · isplitl [Hg]; · iexact Hg
    isplitl [Ha]; · iexact Ha
    isplitl [Hx]; · rw [hset]; iexact Hx
    isplitl [Ht] <;> iassumption
  iexact Hk

/-- Payment `n < 15`: one unit on the barrier cell of the device `n + 1` places on, lending it the two blocks. -/
theorem sig_next (n : ℕ) (hn : n < 15) {n' : Dev nD} (hn' : n' = nb c (n + 1)) :
    iprop(St m K c n ∗ Ln c n) ⊢ iprop(((St m K c (n + 1) ∗ Ln c (n + 1)) -∗ Runs c (k ⟨⟩) Q)
      -∗ Runs c (.op (.semSignal (Dev.tc n' : Thread nD τ) barrier0 1) k) Q) := by
  subst hn'
  have hix : oweIx n = barIx := if_pos hn
  have hc : oweCell c n = cell (nb c (n + 1), barIx) := by unfold oweCell oweTo; rw [if_pos hn, hix]
  have htok : payTok (F := F) c n = iprop(dutyTok ER (cell (nb c (n + 1), barIx)) 0 c ∗ emp) := by
    unfold payTok oweDuty; rw [hc, if_pos hn, if_pos hn]
  have hpay : (Rd (F := F) m).payload ((nb c (n + 1) : Thread nD τ), SemLoc.reg barrier0) 0 c
      = iprop((∃ f, rPt c (nb c (n + 1)) f) ∗ ∃ f, gPt c (nb c (n + 1)) f) := payload_cell m (nb c (n + 1)) barIx 0 c
  unfold St Ln ow
  iintro ⟨⟨#Hr, ⟨%W, HO⟩, Ht, Hc⟩, Hl⟩ Hk
  icases (run_pop (show n < 45 by omega) (payTok (F := F) c)) $$ Ht with ⟨Htn, Ht⟩
  icases (run_pop hn _) $$ Hl with ⟨Hln, Hl⟩
  ihave Hg := (inv_at m K (nb c (n + 1), barIx)) $$ Hr
  ihave Hre := (reached_at m K (nb c (n + 1), barIx)) $$ Hr
  icases (Entails.of_eq htok) $$ Htn with ⟨Htn, -⟩
  iapply (Rounds.wp_signal 𝒱₀ ER (Rd m) (c : Thread nD τ) none (dst := (nb c (n + 1) : Thread nD τ)) (κ := K (nb c (n + 1), barIx)) (r := 0) (d := c)
    (show c ∈ (Rd m).duties (cell (nb c (n + 1), barIx)) 0 by
      rw [duties_cell]
      exact Finset.mem_erase.mpr ⟨(nb_ne ⟨n, hn⟩ c).symm, Finset.mem_univ _⟩)
    (amount_cell m (nb c (n + 1)) barIx 0 c) () (O₀ := owe c n) (owe c (n + 1))
    (by rw [owe_succ c n (by omega), hc, oweAmt, hix]; rfl)) $$ [Hg HO Htn Hln]
  · isplitl [Hg]; · iexact Hg
    isplitl [HO]; · iexact HO
    isplitl [Htn]; · iexact Htn
    isplitl [Hln]
    · iapply (Entails.of_eq hpay.symm); iexact Hln
    · iexact Hre
  iintro HO
  iapply Hk
  isplitr [Hl]
  · isplitr; · iexact Hr
    isplitl [HO]; · iexists _; iexact HO
    isplitl [Ht]; · iexact Ht
    iclear Hc
    iapply (run_none (show n + 1 ≤ 15 by omega) _); iempintro
  · iexact Hl

/-- A slot copied to device `t`, the copy numbered `i`. -/
theorem data_raw (i : Fin 16) (hi12 : i ≠ 12) {n' : Dev nD} (hn' : n' = tgt c i.val) {O₀ : CellTallies nD τ sig Unit} (O : CellTallies nD τ sig Unit)
    (hO : O₀ = O + tallyAt (cell (tgt c i.val, .inr (1, i))) () (amt (.inr (1, i))))
    {off3 : Fin 3 → ℕ} {off2 : Fin 2 → ℕ}
    {h3 : ∀ a, off3 a + S1x256x128.size a ≤ S16x256x128.size a} {h2 : ∀ a, off2 a + S256x128.size a ≤ S4096x128.size a}
    (ho : off3 = ![(slotOf c i.val).val, 0, 0]) (ho' : off2 = ![256 * c.val, 0])
    {sS sR : SemLoc sig} (hS : sS = semOf (.inr (0, i))) (hR : sR = semOf (.inr (1, i)))
    {hsc : (rSlice off2 h2 : Memref sig (Dev.tc n' : Thread nD τ).2.kind .vmem S256x128 .bf16).view.ref.isScScratch = false}
    {hsrc : (ySlice off3 h3).view.WordExact} {hdst : (rSlice off2 h2).view.WordExact}
    {hsem : DmaTarget.Typed .vmem sR (.remote (Dev.tc n' : Thread nD τ) (rSlice off2 h2) sS hsc : DmaTarget nD τ sig .tc .vmem S256x128 .bf16)}
    (f : (cc0_scratch4 : Ref sig .tc).ty.Contents (Elt F)) (W : Waits sig Unit) :
    iprop(cellInv ER (Rd m) (K (c, .inr (0, i))) (cell (c, .inr (0, i))) ∗ cellInv ER (Rd m) (K (tgt c i.val, .inr (1, i))) (cell (tgt c i.val, .inr (1, i)))
        ∗ yPt c (slotOf c i.val) (yAll m c) ∗ rPt (tgt c i.val) c f ∗ owes (c : Thread nD τ) O₀ W
        ∗ dutyTok ER (cell (c, .inr (0, i))) 0 0 ∗ reached ER (cell (c, .inr (0, i))) 0
        ∗ dutyTok ER (cell (tgt c i.val, .inr (1, i))) 0 0 ∗ reached ER (cell (tgt c i.val, .inr (1, i))) 0)
      ⊢ iprop(((cred (tallyAt (cell (c, .inr (0, i))) () (amt (.inr (0, i)))) ∗ owes (c : Thread nD τ) O W) -∗ Runs c (k ⟨⟩) Q)
        -∗ Runs c (.op (.enqueueDma (ySlice off3 h3) (.remote (Dev.tc n' : Thread nD τ) (rSlice off2 h2) sS hsc) sR hsrc hdst hsem) k) Q) := by
  subst hn'
  subst hS
  subst hR
  have hd0 : dut c (.inr (0, i)) 0 = {0} := if_pos ⟨rfl, hi12⟩
  have hd1 : dut (tgt c i.val) (.inr (1, i)) 0 = {0} := if_pos ⟨rfl, hi12⟩
  have hy : (ySlice off3 h3).view.set = yS (slotOf c i.val) := ySlice_set _ ho
  have hrs : (rSlice off2 h2).view.set = rS c := rSlice_set _ ho'
  have hc := r_copy (h := h2) (h' := h3) m (tgt c i.val) c (slotOf c i.val) (slotFor_tgt i c) ho' ho f
  have e1 : yPt c (slotOf c i.val) (yAll m c) = ((ySlice off3 h3).view.loc (c : Thread nD τ) ↦[(ySlice off3 h3).view.set]{fullShare} yAll m c) := by rw [hy]
  have e2 : rPt (tgt c i.val) c f = ((rSlice off2 h2).view.loc (tgt c i.val : Thread nD τ) ↦[(rSlice off2 h2).view.set]{fullShare} f) := by rw [hrs]
  have hpay0 : (Rd (F := F) m).payload (cell (c, .inr (0, i))) 0 0 = yPt c (slotOf c i.val) (yAll m c) := payload_cell m _ _ _ _
  have hpay1 : (Rd (F := F) m).payload (cell (tgt c i.val, .inr (1, i))) 0 0 = rPt (tgt c i.val) c (rAll m (tgt c i.val)) := by
    rw [payload_cell]; show rPt (tgt c i.val) (src (tgt c i.val) i.val) _ = _; rw [src_tgt i c]
  have hN : (rSlice off2 h2).view.amount (semOf (.inr (1, i))) = Nd := rfl
  have hk1 : (Rd m).amount (cell (c, .inr (0, i))) 0 0 = Nd := amount_cell m c (.inr (0, i)) 0 0
  have hk2 : (Rd m).amount (cell (tgt c i.val, .inr (1, i))) 0 0 = Nd := amount_cell m (tgt c i.val) (.inr (1, i)) 0 0
  have hO' : O₀ = O + tallyAt (cell (tgt c i.val, .inr (1, i))) () Nd := hO
  have hm1 : (0 : Fin 16) ∈ (Rd m).duties (cell (c, .inr (0, i))) 0 := by rw [duties_cell, hd0]; exact Finset.mem_singleton_self _
  have hm2 : (0 : Fin 16) ∈ (Rd m).duties (cell (tgt c i.val, .inr (1, i))) 0 := by rw [duties_cell, hd1]; exact Finset.mem_singleton_self _
  have hp1 : ((ySlice off3 h3).view.loc (c : Thread nD τ) ↦[(ySlice off3 h3).view.set]{fullShare} yAll m c)
      ⊢ (Rd (F := F) m).payload (cell (c, .inr (0, i))) 0 0 := Entails.of_eq (e1.symm.trans hpay0.symm)
  have hp2 : ((rSlice off2 h2).view.loc (tgt c i.val : Thread nD τ) ↦[(rSlice off2 h2).view.set]{fullShare}
      ((rSlice off2 h2).view.write (Elt F) f ((ySlice off3 h3).view.read (Elt F) (yAll m c)) Finset.univ))
      ⊢ (Rd (F := F) m).payload (cell (tgt c i.val, .inr (1, i))) 0 0 := by
    rw [hpay1, hrs]; exact Entails.of_eq (pointsTo_congr hc)
  rw [e1, e2]
  have hr : τ.routes (c : Thread nD τ) (tgt c i.val : Thread nD τ) = true := by routes
  exact Rounds.wp_send_pointsTo 𝒱₀ ER (Rd m) (c : Thread nD τ) none (c' := (tgt c i.val : Thread nD τ)) (src := ySlice off3 h3) (dst := (rSlice off2 h2 : Memref sig (Dev.tc (tgt c i.val) : Thread nD τ).2.kind .vmem S256x128 .bf16))
    (sS := semOf (.inr (0, i))) (sem := semOf (.inr (1, i))) (hsc := hsc) (hsrc := hsrc) (hdst := hdst) (hsem := hsem) (k := k) (Q := Q) (defs := defs₀ (F := F))
    (κ₁ := K (c, .inr (0, i))) (κ₂ := K (tgt c i.val, .inr (1, i))) (r₁ := 0) (r₂ := 0) (d₁ := 0) (d₂ := 0) (fs := yAll m c) (fd := f) (q := fullShare)
    hm1 hm2 () () Nd hN hk1 hk2 O hO' (W := W) hp1 hp2 (Es := Set.univ) hr

/-- The maximum copied to device `nb c i`. -/
theorem max_raw (i : Fin 16) (hi0 : i ≠ 0) {n' : Dev nD} (hn' : n' = nb c i.val) {O₀ : CellTallies nD τ sig Unit} (O : CellTallies nD τ sig Unit)
    (hO : O₀ = O + tallyAt (cell (nb c i.val, .inr (3, i))) () (amt (.inr (3, i))))
    {off2 : Fin 2 → ℕ} {h2 : ∀ a, off2 a + S1x128.size a ≤ S16x128.size a} (ho' : off2 = ![c.val, 0])
    {sS sR : SemLoc sig} (hS : sS = semOf (.inr (2, i))) (hR : sR = semOf (.inr (3, i)))
    {hsc : (gSlice off2 h2 : Memref sig (Dev.tc n' : Thread nD τ).2.kind .vmem S1x128 .f32).view.ref.isScScratch = false}
    {hsrc : aM.view.WordExact} {hdst : (gSlice off2 h2).view.WordExact}
    {hsem : DmaTarget.Typed .vmem sR (.remote (Dev.tc n' : Thread nD τ) (gSlice off2 h2) sS hsc : DmaTarget nD τ sig .tc .vmem S1x128 .f32)}
    (f : (cc0_scratch6 : Ref sig .tc).ty.Contents (Elt F)) (W : Waits sig Unit) :
    iprop(cellInv ER (Rd m) (K (c, .inr (2, i))) (cell (c, .inr (2, i))) ∗ cellInv ER (Rd m) (K (nb c i.val, .inr (3, i))) (cell (nb c i.val, .inr (3, i)))
        ∗ aPt c i (amv m c) ∗ gPt (nb c i.val) c f ∗ owes (c : Thread nD τ) O₀ W
        ∗ dutyTok ER (cell (c, .inr (2, i))) 0 0 ∗ reached ER (cell (c, .inr (2, i))) 0
        ∗ dutyTok ER (cell (nb c i.val, .inr (3, i))) 0 0 ∗ reached ER (cell (nb c i.val, .inr (3, i))) 0)
      ⊢ iprop(((cred (tallyAt (cell (c, .inr (2, i))) () (amt (.inr (2, i)))) ∗ owes (c : Thread nD τ) O W) -∗ Runs c (k ⟨⟩) Q)
        -∗ Runs c (.op (.enqueueDma aM (.remote (Dev.tc n' : Thread nD τ) (gSlice off2 h2) sS hsc) sR hsrc hdst hsem) k) Q) := by
  subst hn'
  subst hS
  subst hR
  have hd0 : dut c (.inr (2, i)) 0 = {0} := if_pos ⟨rfl, hi0⟩
  have hd1 : dut (nb c i.val) (.inr (3, i)) 0 = {0} := if_pos ⟨rfl, hi0⟩
  have has : (aM.view.set : Finset _) = Finset.univ := View.set_whole _
  have hgs : (gSlice off2 h2).view.set = gS c := gSlice_set _ ho'
  have hc := g_copy (h := h2) m c ho' f
  have e1 : aPt c i (amv m c) = (aM.view.loc (c : Thread nD τ) ↦[aM.view.set]{leaf 4 fullShare i} amv m c) := by rw [has]
  have e2 : gPt (nb c i.val) c f = ((gSlice off2 h2).view.loc (nb c i.val : Thread nD τ) ↦[(gSlice off2 h2).view.set]{fullShare} f) := by rw [hgs]
  have hpay0 : (Rd (F := F) m).payload (cell (c, .inr (2, i))) 0 0 = aPt c i (amv m c) := payload_cell m _ _ _ _
  have hpay1 : (Rd (F := F) m).payload (cell (nb c i.val, .inr (3, i))) 0 0 = gPt (nb c i.val) c (gAll m) := by
    rw [payload_cell]; show gPt (nb c i.val) (nb (nb c i.val) (16 - i.val)) _ = _; rw [nb_back i c]
  have hN : (gSlice off2 h2).view.amount (semOf (.inr (3, i))) = Na := rfl
  have hk1 : (Rd m).amount (cell (c, .inr (2, i))) 0 0 = Na := amount_cell m c (.inr (2, i)) 0 0
  have hk2 : (Rd m).amount (cell (nb c i.val, .inr (3, i))) 0 0 = Na := amount_cell m (nb c i.val) (.inr (3, i)) 0 0
  have hO' : O₀ = O + tallyAt (cell (nb c i.val, .inr (3, i))) () Na := hO
  have hm1 : (0 : Fin 16) ∈ (Rd m).duties (cell (c, .inr (2, i))) 0 := by rw [duties_cell, hd0]; exact Finset.mem_singleton_self _
  have hm2 : (0 : Fin 16) ∈ (Rd m).duties (cell (nb c i.val, .inr (3, i))) 0 := by rw [duties_cell, hd1]; exact Finset.mem_singleton_self _
  have hp1 : (aM.view.loc (c : Thread nD τ) ↦[aM.view.set]{leaf 4 fullShare i} amv m c)
      ⊢ (Rd (F := F) m).payload (cell (c, .inr (2, i))) 0 0 := Entails.of_eq (e1.symm.trans hpay0.symm)
  have hp2 : ((gSlice off2 h2).view.loc (nb c i.val : Thread nD τ) ↦[(gSlice off2 h2).view.set]{fullShare}
      ((gSlice off2 h2).view.write (Elt F) f (aM.view.read (Elt F) (amv m c)) Finset.univ))
      ⊢ (Rd (F := F) m).payload (cell (nb c i.val, .inr (3, i))) 0 0 := by
    rw [hpay1, hgs]; exact Entails.of_eq (pointsTo_congr hc)
  rw [e1, e2]
  have hr : τ.routes (c : Thread nD τ) (nb c i.val : Thread nD τ) = true := by routes
  exact Rounds.wp_send_pointsTo 𝒱₀ ER (Rd m) (c : Thread nD τ) none (c' := (nb c i.val : Thread nD τ)) (src := aM)
    (dst := (gSlice off2 h2 : Memref sig (Dev.tc (nb c i.val) : Thread nD τ).2.kind .vmem S1x128 .f32))
    (sS := semOf (.inr (2, i))) (sem := semOf (.inr (3, i))) (hsc := hsc) (hsrc := hsrc) (hdst := hdst) (hsem := hsem) (k := k) (Q := Q) (defs := defs₀ (F := F))
    (κ₁ := K (c, .inr (2, i))) (κ₂ := K (nb c i.val, .inr (3, i))) (r₁ := 0) (r₂ := 0) (d₁ := 0) (d₂ := 0) (fs := amv m c) (fd := f) (q := leaf 4 fullShare i)
    hm1 hm2 () () Na hN hk1 hk2 O hO' (W := W) hp1 hp2 (Es := Set.univ) hr

/-- Payment `15 ≤ n < 30`: a slot copied to the device that keeps its columns. -/
theorem data_next (n : ℕ) (h15 : 15 ≤ n) (hn : n < 30) {n' : Dev nD} (hn' : n' = tgt c (kk (n - 15)))
    {off3 : Fin 3 → ℕ} {off2 : Fin 2 → ℕ}
    {h3 : ∀ a, off3 a + S1x256x128.size a ≤ S16x256x128.size a} {h2 : ∀ a, off2 a + S256x128.size a ≤ S4096x128.size a}
    (ho : off3 = ![(slotOf c (kk (n - 15))).val, 0, 0]) (ho' : off2 = ![256 * c.val, 0])
    {sS sR : SemLoc sig} (hS : sS = semOf (dsIx (kk (n - 15)))) (hR : sR = semOf (drIx (kk (n - 15))))
    {hsc : (rSlice off2 h2 : Memref sig (Dev.tc n' : Thread nD τ).2.kind .vmem S256x128 .bf16).view.ref.isScScratch = false}
    {hsrc : (ySlice off3 h3).view.WordExact} {hdst : (rSlice off2 h2).view.WordExact}
    {hsem : DmaTarget.Typed .vmem sR (.remote (Dev.tc n' : Thread nD τ) (rSlice off2 h2) sS hsc : DmaTarget nD τ sig .tc .vmem S256x128 .bf16)} :
    iprop(St m K c n ∗ Rt c n ∗ yPt c (slotOf c (kk (n - 15))) (yAll m c)) ⊢ iprop(((St m K c (n + 1) ∗ Rt c (n + 1)) -∗ Runs c (k ⟨⟩) Q)
      -∗ Runs c (.op (.enqueueDma (ySlice off3 h3) (.remote (Dev.tc n' : Thread nD τ) (rSlice off2 h2) sS hsc) sR hsrc hdst hsem) k) Q) := by
  obtain ⟨i, hi⟩ : ∃ i : Fin 16, i.val = kk (n - 15) := ⟨⟨kk (n - 15), by unfold kk; split <;> omega⟩, rfl⟩
  have hik : Fin.ofNat 16 (kk (n - 15)) = i := by rw [← hi]; exact Fin.ofNat_val_eq_self i
  have hi12 : i ≠ 12 := fun h => by rw [h] at hi; unfold kk at hi; split at hi <;> simp at hi <;> omega
  have hix : oweIx n = .inr (1, i) := by unfold oweIx; rw [if_neg (by omega), if_pos hn]; exact congrArg (fun z => (Sum.inr (1, z) : CIx)) hik
  have hsx : sendIx n = .inr (0, i) := by unfold sendIx; rw [if_pos hn]; exact congrArg (fun z => (Sum.inr (0, z) : CIx)) hik
  have hS' : sS = semOf (.inr (0, i)) := by rw [hS]; exact congrArg (fun z => semOf (Sum.inr (0, z))) hik
  have hR' : sR = semOf (.inr (1, i)) := by rw [hR]; exact congrArg (fun z => semOf (Sum.inr (1, z))) hik
  have hc : oweCell c n = cell (tgt c i.val, .inr (1, i)) := by
    unfold oweCell oweTo; rw [if_neg (by omega), if_pos hn, hix, hi]
  rw [← hi] at ho hn' ⊢
  have htok : payTok (F := F) c n = iprop(dutyTok ER (cell (tgt c i.val, .inr (1, i))) 0 0 ∗ dutyTok ER (cell (c, .inr (0, i))) 0 0) := by
    unfold payTok oweDuty; rw [hc, if_neg (by omega), if_neg (by omega), hsx]
  have hrt : iprop(∃ f, rPt (F := F) (tgt c (kk (n - 15))) c f) = iprop(∃ f, rPt (F := F) (tgt c i.val) c f) := by rw [hi]
  unfold St Rt ow
  iintro ⟨⟨#Hr, ⟨%W, HO⟩, Ht, Hc⟩, Hl, Hy⟩ Hk
  icases (run_pop (show n < 45 by omega) (payTok (F := F) c)) $$ Ht with ⟨Htn, Ht⟩
  icases (run_pop hn _) $$ Hl with ⟨Hln, Hl⟩
  ihave Hg0 := (inv_at m K (c, .inr (0, i))) $$ Hr
  ihave Hre0 := (reached_at m K (c, .inr (0, i))) $$ Hr
  ihave Hg1 := (inv_at m K (tgt c i.val, .inr (1, i))) $$ Hr
  ihave Hre1 := (reached_at m K (tgt c i.val, .inr (1, i))) $$ Hr
  icases (Entails.of_eq htok) $$ Htn with ⟨Ht1, Ht0⟩
  icases (Entails.of_eq hrt) $$ Hln with ⟨%f, Hln⟩
  iapply (data_raw m K c i hi12 hn' (O₀ := owe c n) (owe c (n + 1)) (by rw [owe_succ c n (by omega), hc, oweAmt, hix]) ho ho' hS' hR' f W)
    $$ [Hg0 Hg1 Hy Hln HO Ht0 Ht1]
  · isplitl [Hg0]; · iexact Hg0
    isplitl [Hg1]; · iexact Hg1
    isplitl [Hy]; · iexact Hy
    isplitl [Hln]; · iexact Hln
    isplitl [HO]; · iexact HO
    isplitl [Ht0]; · iexact Ht0
    isplitr; · iexact Hre0
    isplitl [Ht1]; · iexact Ht1
    iexact Hre1
  iintro ⟨Hcn, HO⟩
  iapply Hk
  isplitr [Hl]
  · isplitr; · iexact Hr
    isplitl [HO]; · iexists _; iexact HO
    isplitl [Ht]; · iexact Ht
    iapply (run_push h15 (sentCred (F := F) c))
    isplitl [Hcn]
    · unfold sentCred; rw [hsx]; iexact Hcn
    · iexact Hc
  · iexact Hl

/-- Payment `30 ≤ n < 45`: the maximum copied to the device `n - 29` places on. -/
theorem max_next (n : ℕ) (h30 : 30 ≤ n) (hn : n < 45) {n' : Dev nD} (hn' : n' = nb c (n - 29))
    {off2 : Fin 2 → ℕ} {h2 : ∀ a, off2 a + S1x128.size a ≤ S16x128.size a} (ho' : off2 = ![c.val, 0])
    {sS sR : SemLoc sig} (hS : sS = semOf (asIx (n - 29))) (hR : sR = semOf (arIx (n - 29)))
    {hsc : (gSlice off2 h2 : Memref sig (Dev.tc n' : Thread nD τ).2.kind .vmem S1x128 .f32).view.ref.isScScratch = false}
    {hsrc : aM.view.WordExact} {hdst : (gSlice off2 h2).view.WordExact}
    {hsem : DmaTarget.Typed .vmem sR (.remote (Dev.tc n' : Thread nD τ) (gSlice off2 h2) sS hsc : DmaTarget nD τ sig .tc .vmem S1x128 .f32)} :
    iprop(St m K c n ∗ Gt c n ∗ Ap m c n) ⊢ iprop(((St m K c (n + 1) ∗ Gt c (n + 1) ∗ Ap m c (n + 1)) -∗ Runs c (k ⟨⟩) Q)
      -∗ Runs c (.op (.enqueueDma aM (.remote (Dev.tc n' : Thread nD τ) (gSlice off2 h2) sS hsc) sR hsrc hdst hsem) k) Q) := by
  obtain ⟨i, hi⟩ : ∃ i : Fin 16, i.val = n - 29 := ⟨⟨n - 29, by omega⟩, rfl⟩
  have hik : Fin.ofNat 16 (n - 29) = i := by rw [← hi]; exact Fin.ofNat_val_eq_self i
  have hi0 : i ≠ 0 := fun h => by rw [h] at hi; simp at hi; omega
  have hix : oweIx n = .inr (3, i) := by unfold oweIx; rw [if_neg (by omega), if_neg (by omega)]; exact congrArg (fun z => (Sum.inr (3, z) : CIx)) hik
  have hsx : sendIx n = .inr (2, i) := by unfold sendIx; rw [if_neg (by omega)]; exact congrArg (fun z => (Sum.inr (2, z) : CIx)) hik
  have hS' : sS = semOf (.inr (2, i)) := by rw [hS]; exact congrArg (fun z => semOf (Sum.inr (2, z))) hik
  have hR' : sR = semOf (.inr (3, i)) := by rw [hR]; exact congrArg (fun z => semOf (Sum.inr (3, z))) hik
  have hc : oweCell c n = cell (nb c i.val, .inr (3, i)) := by
    unfold oweCell oweTo; rw [if_neg (by omega), if_neg (by omega), hix, hi]
  rw [← hi] at hn'
  have htok : payTok (F := F) c n = iprop(dutyTok ER (cell (nb c i.val, .inr (3, i))) 0 0 ∗ dutyTok ER (cell (c, .inr (2, i))) 0 0) := by
    unfold payTok oweDuty; rw [hc, if_neg (by omega), if_neg (by omega), hsx]
  have hgt : iprop(∃ f, gPt (F := F) (nb c (n - 29)) c f) = iprop(∃ f, gPt (F := F) (nb c i.val) c f) := by rw [hi]
  have hap : aPt c (Fin.ofNat 16 (n - 29)) (amv m c) = aPt c i (amv m c) := by rw [hik]
  unfold St Gt Ap ow
  iintro ⟨⟨#Hr, ⟨%W, HO⟩, Ht, Hc⟩, Hl, Ha⟩ Hk
  icases (run_pop hn (payTok (F := F) c)) $$ Ht with ⟨Htn, Ht⟩
  icases (run_pop hn _) $$ Hl with ⟨Hln, Hl⟩
  icases (run_pop hn _) $$ Ha with ⟨Han, Ha⟩
  ihave Hg0 := (inv_at m K (c, .inr (2, i))) $$ Hr
  ihave Hre0 := (reached_at m K (c, .inr (2, i))) $$ Hr
  ihave Hg1 := (inv_at m K (nb c i.val, .inr (3, i))) $$ Hr
  ihave Hre1 := (reached_at m K (nb c i.val, .inr (3, i))) $$ Hr
  icases (Entails.of_eq htok) $$ Htn with ⟨Ht1, Ht0⟩
  icases (Entails.of_eq hgt) $$ Hln with ⟨%f, Hln⟩
  iapply (max_raw m K c i hi0 hn' (O₀ := owe c n) (owe c (n + 1)) (by rw [owe_succ c n hn, hc, oweAmt, hix]) ho' hS' hR' f W)
    $$ [Hg0 Hg1 Han Hln HO Ht0 Ht1]
  · isplitl [Hg0]; · iexact Hg0
    isplitl [Hg1]; · iexact Hg1
    isplitl [Han]; · iapply (Entails.of_eq hap); iexact Han
    isplitl [Hln]; · iexact Hln
    isplitl [HO]; · iexact HO
    isplitl [Ht0]; · iexact Ht0
    isplitr; · iexact Hre0
    isplitl [Ht1]; · iexact Ht1
    iexact Hre1
  iintro ⟨Hcn, HO⟩
  iapply Hk
  isplitr [Hl Ha]
  · isplitr; · iexact Hr
    isplitl [HO]; · iexists _; iexact HO
    isplitl [Ht]; · iexact Ht
    iapply (run_push (show 15 ≤ n by omega) (sentCred (F := F) c))
    isplitl [Hcn]
    · unfold sentCred; rw [hsx]; iexact Hcn
    · iexact Hc
  · isplitl [Hl] <;> iassumption

end Steps

end Cert.KernelIdeal.Run

end
-- ==== Proof.IdealRuns.lean ====
/-
# The runs of a device, regrouped

The device's payments, waits and buffers are numbered; here the runs over the numbers are regrouped by the devices, slots
and cells they stand for, and the steps that load, store and wait advance them.
-/
module

public import proofs.«01_k».proof.Proof.IdealSteps

@[expose] public section

set_option maxRecDepth 16384

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ShareLeaves (leaf pointsTo_leaves)

variable {F : FTy → Type} [FloatOps F]

local notation "𝕄" => MT nD τ sig Unit (Elt F) ℕ UU ℕ

variable (m : (ℓ : Loc nD τ sig) → Buf (Elt F) ℓ)

/-! ## Regrouping -/

theorem set_split {β : Type} [DecidableEq β] {s t : Finset β} (h : Disjoint s t) (Φ : β → sProp 𝕄) :
    bigSep (s ∪ t) Φ = iprop(bigSep s Φ ∗ bigSep t Φ) := bigSep_union h

/-- A run whose numbers stand, once each, for the members of `S`. -/
theorem run_image {β : Type} [DecidableEq β] {a b : ℕ} (g : ℕ → β) {S : Finset β} (h : (Finset.Ico a b).image g = S)
    (hc : S.card = b - a) (Φ : β → sProp 𝕄) : bigSep (Finset.Ico a b) (fun i => Φ (g i)) = bigSep S Φ := by
  subst h
  exact (bigSep_image_of_injOn (Finset.card_image_iff.mp (by rw [hc, Nat.card_Ico])) Φ).symm

/-- A run renumbered. -/
theorem run_shift (d a b : ℕ) (A : ℕ → sProp 𝕄) : bigSep (Finset.Ico a b) (fun i => A (d + i)) = bigSep (Finset.Ico (d + a) (d + b)) A :=
  run_image (fun i => d + i) (by
    ext x; rw [Finset.mem_image]; constructor
    · rintro ⟨i, hi, rfl⟩; have := Finset.mem_Ico.mp hi; exact Finset.mem_Ico.mpr ⟨by omega, by omega⟩
    · intro hx; have := Finset.mem_Ico.mp hx; exact ⟨x - d, Finset.mem_Ico.mpr ⟨by omega, by omega⟩, by omega⟩)
    (by rw [Nat.card_Ico]; omega) A

theorem run_split {a b d : ℕ} (h : a ≤ b) (h' : b ≤ d) (A : ℕ → sProp 𝕄) :
    bigSep (Finset.Ico a d) A = iprop(bigSep (Finset.Ico a b) A ∗ bigSep (Finset.Ico b d) A) := by
  rw [← Finset.Ico_union_Ico_eq_Ico h h', set_split (Finset.Ico_disjoint_Ico_consecutive a b d)]

section Images
variable (c : Dev nD)

theorem image_lend : (Finset.Ico 0 15).image (fun i => nb c (i + 1)) = Finset.univ.erase c := by revert c; decide +kernel
theorem image_data : (Finset.Ico 15 30).image (fun i => tgt c (kk (i - 15))) = Finset.univ.erase c := by revert c; decide +kernel
theorem image_max : (Finset.Ico 30 45).image (fun i => nb c (i - 29)) = Finset.univ.erase c := by revert c; decide +kernel
theorem image_from : (Finset.Ico 15 30).image (fun i => src c (Fin.ofNat 16 (kk (i - 15)))) = Finset.univ.erase c := by revert c; decide +kernel
theorem image_slot : (Finset.Ico 15 30).image (fun i => slotOf c (Fin.ofNat 16 (kk (i - 15)))) = Finset.univ.erase (slotOf c 12) := by
  revert c; decide +kernel
theorem image_back : (Finset.Ico 30 45).image (fun i => nb c (16 - (Fin.ofNat 16 (i - 29)).val)) = Finset.univ.erase c := by
  revert c; decide +kernel
theorem image_share : (Finset.Ico 30 45).image (fun i => Fin.ofNat 16 (i - 29)) = Finset.univ.erase (0 : Fin 16) := by decide +kernel
theorem image_tile (a : Fin 4) : (Finset.Ico (4 * a.val) (4 * a.val + 4)).image (fun p => Fin.ofNat 16 p)
    = (Finset.Ico (4 * a.val) (4 * a.val + 4)).image (fun k => slotOf c k) := by revert c a; decide +kernel
theorem card_tile (a : Fin 4) : ((Finset.Ico (4 * a.val) (4 * a.val + 4)).image (fun p => Fin.ofNat 16 p)).card = 4 := by revert a; decide +kernel
theorem card_erase (d : Fin 16) : ((Finset.univ : Finset (Fin 16)).erase d).card = 15 := by
  rw [Finset.card_erase_of_mem (Finset.mem_univ d), Finset.card_univ, Fintype.card_fin]

/-- The cells of a device, in the order in which they are used. -/
theorem cells_split (Φ : CIx → sProp 𝕄) :
    bigSep Finset.univ Φ = iprop((Φ barIx ∗ Φ xIx ∗ Φ (wIx 0) ∗ Φ (wIx 1)) ∗ (Φ (dsIx 12) ∗ Φ (drIx 12) ∗ Φ (asIx 0) ∗ Φ (arIx 0))
      ∗ bigSep (Finset.Ico 15 45) (fun i => Φ (sendIx i)) ∗ bigSep (Finset.Ico 15 45) (fun i => Φ (oweIx i))) := by
  have hu : (Finset.univ : Finset CIx) = {barIx, xIx, wIx 0, wIx 1} ∪ ({dsIx 12, drIx 12, asIx 0, arIx 0}
      ∪ ((Finset.Ico 15 45).image sendIx ∪ (Finset.Ico 15 45).image oweIx)) := by decide +kernel
  rw [hu, set_split (by decide +kernel), set_split (by decide +kernel), set_split (by decide +kernel),
    bigSep_image_of_injOn (Finset.card_image_iff.mp (by decide +kernel)), bigSep_image_of_injOn (Finset.card_image_iff.mp (by decide +kernel)),
    bigSep_eq_bigSepL_of_eq (S := {barIx, xIx, wIx 0, wIx 1}) [barIx, xIx, wIx 0, wIx 1] (by decide +kernel) (by decide +kernel),
    bigSep_eq_bigSepL_of_eq (S := {dsIx 12, drIx 12, asIx 0, arIx 0}) [dsIx 12, drIx 12, asIx 0, arIx 0] (by decide +kernel) (by decide +kernel)]
  rfl

theorem send_duty (n : ℕ) (h : 15 ≤ n) (h' : n < 45) : dut c (sendIx n) 0 = {0} ∧ ∀ r, 1 ≤ r → dut c (sendIx n) r = ∅ := by
  have h1 : ∀ (c : Dev nD) (i : Fin 30), dut c (sendIx (15 + i.val)) 0 = {0} ∧ sendIx (15 + i.val) ≠ wIx 0 ∧ sendIx (15 + i.val) ≠ wIx 1 := by decide +kernel
  obtain ⟨i, rfl⟩ := Nat.exists_eq_add_of_le h
  obtain ⟨a, b, d⟩ := h1 c ⟨i, by omega⟩
  exact ⟨a, dut_later_one c _ b d⟩
theorem owe_duty (n : ℕ) (h : 15 ≤ n) (h' : n < 45) : dut c (oweIx n) 0 = {0} ∧ ∀ r, 1 ≤ r → dut c (oweIx n) r = ∅ := by
  have h1 : ∀ (c : Dev nD) (i : Fin 30), dut c (oweIx (15 + i.val)) 0 = {0} ∧ oweIx (15 + i.val) ≠ wIx 0 ∧ oweIx (15 + i.val) ≠ wIx 1 := by decide +kernel
  obtain ⟨i, rfl⟩ := Nat.exists_eq_add_of_le h
  obtain ⟨a, b, d⟩ := h1 c ⟨i, by omega⟩
  exact ⟨a, dut_later_one c _ b d⟩

end Images

/-! ## What the barrier hands over -/

theorem bar_regroup (c : Dev nD) :
    (bigSep (Finset.univ.erase c) fun d : Fin 16 => iprop((∃ f, rPt (F := F) d c f) ∗ ∃ f, gPt (F := F) d c f)) ⊢ iprop(Rt c 15 ∗ Gt c 30) := by
  rw [bigSep_sep']
  unfold Rt Gt
  rw [run_image (fun i => tgt c (kk (i - 15))) (image_data c) (card_erase c) (fun d => iprop(∃ f, rPt (F := F) d c f)),
    run_image (fun i => nb c (i - 29)) (image_max c) (card_erase c) (fun d => iprop(∃ f, gPt (F := F) d c f))]

/-! ## The product slots -/

section Slots
variable (c : Dev nD)

/-- Slots not yet stored, from `n` on. -/
def Ys (n : ℕ) : sProp 𝕄 := bigSep (Finset.Ico n 16) fun p => iprop(∃ f, yPt (F := F) c (Fin.ofNat 16 p) f)
/-- Slots `a ≤ p < b`, stored. -/
def Yd (a b : ℕ) : sProp 𝕄 := bigSep (Finset.Ico a b) fun p => yPt c (Fin.ofNat 16 p) (yAll m c)
/-- The slots of copies `a ≤ k < b`. -/
def Yk (a b : ℕ) : sProp 𝕄 := bigSep (Finset.Ico a b) fun k => yPt c (slotOf c k) (yAll m c)

/-- A tile's four slots, by the copies they are for. -/
theorem y_tile (a : Fin 4) : Yd m c (4 * a.val) (4 * a.val + 4) ⊢ Yk m c (4 * a.val) (4 * a.val + 4) := by
  unfold Yd Yk
  have hc := (card_tile a).trans (show 4 = 4 * a.val + 4 - 4 * a.val by omega)
  rw [run_image (fun p => Fin.ofNat 16 p) rfl hc (fun p => yPt c p (yAll m c)),
    run_image (fun k => slotOf c k) (image_tile c a).symm hc (fun p => yPt c p (yAll m c))]

variable {α : Type} {Q : α → sProp (MT nD τ sig Unit (Elt F) ℕ UU ℕ)}
  {off3 : Fin 3 → ℕ} {h : ∀ a, off3 a + S1x256x128.size a ≤ S16x256x128.size a}

theorem y_dead (n : ℕ) (hn : n < 16) (ho : off3 = ![n, 0, 0]) {hl : (yM : Memref sig .tc .vmem S16x256x128 .bf16).view.LoadsAt (yRect off3 h).toLoadRect}
    {k : ((yRect off3 h).shape.Idx → Elt F .bf16) → Prog (TpuEff nD τ sig (Elt F) Λ₀ .tc) α} :
    Ys (F := F) c n ⊢ iprop((∀ v, Ys (F := F) c n -∗ Runs c (k v) Q) -∗ Runs c (.op (.load yM (yRect off3 h).toLoadRect hl) k) Q) := by
  unfold Ys
  iintro H Hk
  icases (run_pop hn _) $$ H with ⟨⟨%f, Hy⟩, H⟩
  iapply (wp_load_rect 𝒱₀ (c : Thread nD τ) none Set.univ (m := yM) (r := yRect off3 h)
    (Finset.subset_of_eq (yAcc_set (h := h) (Fin.ofNat 16 n) (by rw [ho]; simp [Nat.mod_eq_of_lt hn])))) $$ Hy
  iintro Hy
  iapply Hk
  iapply (Entails.of_eq (bigSep_Ico_succ_bot hn _).symm)
  isplitl [Hy]
  · iexists f; iexact Hy
  · iexact H

theorem y_next (a n : ℕ) (ha : a ≤ n) (hn : n < 16) (ho : off3 = ![n, 0, 0]) {w : S1x256x128.Idx → Elt F .bf16} (hw : w = slotVal m c (Fin.ofNat 16 n))
    {hx : (yM.access (yRect off3 h) : View sig .tc _ _ _).Stores Finset.univ} {hm}
    {k : PUnit → Prog (TpuEff nD τ sig (Elt F) Λ₀ .tc) α} :
    iprop(Ys (F := F) c n ∗ Yd m c a n) ⊢ iprop(((Ys (F := F) c (n + 1) ∗ Yd m c a (n + 1)) -∗ Runs c (k ⟨⟩) Q)
      -∗ Runs c (.op (.store yM (yRect off3 h) w Finset.univ hx hm) k) Q) := by
  subst hw
  have ho' : off3 = ![(Fin.ofNat 16 n).val, 0, 0] := by rw [ho]; simp [Nat.mod_eq_of_lt hn]
  unfold Ys Yd
  iintro ⟨H, Hd⟩ Hk
  icases (run_pop hn _) $$ H with ⟨⟨%f, Hy⟩, H⟩
  iapply (wp_store 𝒱₀ (c : Thread nD τ) none Set.univ (m := yM) (r := yRect off3 h) (Mk := Finset.univ)
    (by rw [View.setOn_univ, yAcc_set (Fin.ofNat 16 n) ho'])) $$ Hy
  iintro Hy
  iapply Hk
  isplitl [H]; · iexact H
  iapply (run_push ha _)
  isplitl [Hy]
  · iapply (Entails.of_eq (pointsTo_congr (y_store (h := h) m c (Fin.ofNat 16 n) ho' f))); iexact Hy
  · iexact Hd

/-- A slot loaded. -/
theorem y_load (p : Fin 16) (ho : off3 = ![p.val, 0, 0]) {hl : (yM : Memref sig .tc .vmem S16x256x128 .bf16).view.LoadsAt (yRect off3 h).toLoadRect}
    {k : ((yRect off3 h).shape.Idx → Elt F .bf16) → Prog (TpuEff nD τ sig (Elt F) Λ₀ .tc) α} :
    yPt c p (yAll m c) ⊢ iprop((yPt c p (yAll m c) -∗ Runs c (k (slotVal m c p)) Q) -∗ Runs c (.op (.load yM (yRect off3 h).toLoadRect hl) k) Q) := by
  rw [← y_read (h := h) m c p ho]
  exact wp_load_rect 𝒱₀ (c : Thread nD τ) none Set.univ (m := yM) (r := yRect off3 h) (by rw [yAcc_set p ho])

end Slots

/-! ## Loads and stores of the other buffers -/

section Loads
variable (c : Dev nD) {α : Type} {Q : α → sProp (MT nD τ sig Unit (Elt F) ℕ UU ℕ)}

/-- A tile slot loaded. -/
theorem w_load (b : Fin 2) (j : ℕ) {off3 : Fin 3 → ℕ} {h : ∀ a, off3 a + S1x4096x512.size a ≤ S2x4096x512.size a} (ho : off3 = ![b.val, 0, 0])
    {hl : (wM : Memref sig .tc .vmem S2x4096x512 .f32).view.LoadsAt (wRect off3 h).toLoadRect}
    {k : ((wRect off3 h).shape.Idx → Elt F .f32) → Prog (TpuEff nD τ sig (Elt F) Λ₀ .tc) α} :
    wPt c b (wCont m c j) ⊢ iprop((wPt c b (wCont m c j) -∗ Runs c (k (wv m c j)) Q) -∗ Runs c (.op (.load wM (wRect off3 h).toLoadRect hl) k) Q) := by
  rw [← w_read (h := h) m c b j ho]
  exact wp_load_rect 𝒱₀ (c : Thread nD τ) none Set.univ (m := wM) (r := wRect off3 h) (by rw [wAcc_set b ho])

/-- The device's own block of the receive buffer. -/
theorem r_dead {off2 : Fin 2 → ℕ} {h : ∀ a, off2 a + S256x128.size a ≤ S4096x128.size a} (ho : off2 = ![256 * c.val, 0])
    {hl : (rM : Memref sig .tc .vmem S4096x128 .bf16).view.LoadsAt (rRect off2 h).toLoadRect}
    {k : ((rRect off2 h).shape.Idx → Elt F .bf16) → Prog (TpuEff nD τ sig (Elt F) Λ₀ .tc) α} :
    iprop(∃ f, rPt (F := F) c c f) ⊢ iprop((∀ v, (∃ f, rPt (F := F) c c f) -∗ Runs c (k v) Q)
      -∗ Runs c (.op (.load rM (rRect off2 h).toLoadRect hl) k) Q) := by
  iintro ⟨%f, H⟩ Hk
  iapply (wp_load_rect 𝒱₀ (c : Thread nD τ) none Set.univ (m := rM) (r := rRect off2 h) (by rw [← rSlice_set (h := h) c ho])) $$ H
  iintro H
  iapply Hk
  iexists f; iexact H
theorem r_put (p : Fin 16) (hp : slotFor c c = p) {off2 : Fin 2 → ℕ} {h : ∀ a, off2 a + S256x128.size a ≤ S4096x128.size a} (ho : off2 = ![256 * c.val, 0])
    {w : S256x128.Idx → Elt F .bf16} (hw : w = k0_pay32 (slotVal m c p))
    {hx : (rM.access (rRect off2 h) : View sig .tc _ _ _).Stores Finset.univ} {hm} {k : PUnit → Prog (TpuEff nD τ sig (Elt F) Λ₀ .tc) α} :
    iprop(∃ f, rPt (F := F) c c f) ⊢ iprop((rPt c c (rAll m c) -∗ Runs c (k ⟨⟩) Q) -∗ Runs c (.op (.store rM (rRect off2 h) w Finset.univ hx hm) k) Q) := by
  subst hw
  iintro ⟨%f, H⟩ Hk
  iapply (wp_store 𝒱₀ (c : Thread nD τ) none Set.univ (m := rM) (r := rRect off2 h) (Mk := Finset.univ)
    (by rw [View.setOn_univ, ← rSlice_set (h := h) c ho])) $$ H
  iintro H
  iapply Hk
  iapply (Entails.of_eq (pointsTo_congr (r_store (h := h) m c p hp ho f))); iexact H

/-- The device's own row of the gather buffer. -/
theorem g_dead {off2 : Fin 2 → ℕ} {h : ∀ a, off2 a + S1x128.size a ≤ S16x128.size a} (ho : off2 = ![c.val, 0])
    {hl : (gM : Memref sig .tc .vmem S16x128 .f32).view.LoadsAt (gRect off2 h).toLoadRect}
    {k : ((gRect off2 h).shape.Idx → Elt F .f32) → Prog (TpuEff nD τ sig (Elt F) Λ₀ .tc) α} :
    iprop(∃ f, gPt (F := F) c c f) ⊢ iprop((∀ v, (∃ f, gPt (F := F) c c f) -∗ Runs c (k v) Q)
      -∗ Runs c (.op (.load gM (gRect off2 h).toLoadRect hl) k) Q) := by
  iintro ⟨%f, H⟩ Hk
  iapply (wp_load_rect 𝒱₀ (c : Thread nD τ) none Set.univ (m := gM) (r := gRect off2 h) (by rw [← gSlice_set (h := h) c ho])) $$ H
  iintro H
  iapply Hk
  iexists f; iexact H
theorem g_put {off2 : Fin 2 → ℕ} {h : ∀ a, off2 a + S1x128.size a ≤ S16x128.size a} (ho : off2 = ![c.val, 0])
    {w : S1x128.Idx → Elt F .f32} (hw : w = k0_pay34 (amv m c))
    {hx : (gM.access (gRect off2 h) : View sig .tc _ _ _).Stores Finset.univ} {hm} {k : PUnit → Prog (TpuEff nD τ sig (Elt F) Λ₀ .tc) α} :
    iprop(∃ f, gPt (F := F) c c f) ⊢ iprop((gPt c c (gAll m) -∗ Runs c (k ⟨⟩) Q) -∗ Runs c (.op (.store gM (gRect off2 h) w Finset.univ hx hm) k) Q) := by
  subst hw
  iintro ⟨%f, H⟩ Hk
  iapply (wp_store 𝒱₀ (c : Thread nD τ) none Set.univ (m := gM) (r := gRect off2 h) (Mk := Finset.univ)
    (by rw [View.setOn_univ, ← gSlice_set (h := h) c ho])) $$ H
  iintro H
  iapply Hk
  iapply (Entails.of_eq (pointsTo_congr (g_store (h := h) m c ho f))); iexact H

end Loads

/-! ## The waits at the end -/

section Tail
variable (K : Dev nD × CIx → ℕ) (c : Dev nD)

/-- The waits numbered `i` of a family of cells `g`: before, what the wait needs; after, what it hands over and the closed cell. -/
def TW (g : ℕ → CIx) (n : ℕ) : sProp 𝕄 :=
  iprop((bigSep (Finset.Ico n 45) fun i => iprop(cred (tallyAt (cell (c, g i)) () (amt (g i))) ∗ atPos ER (cell (c, g i)) 0 ∅ 0))
    ∗ bigSep (Finset.Ico 15 n) fun i => iprop(pay m c (g i) 0 0 ∗ semVal (cell (c, g i)) 0))

variable {α : Type} {Q : α → sProp (MT nD τ sig Unit (Elt F) ℕ UU ℕ)} {k : PUnit → Prog (TpuEff nD τ sig (Elt F) Λ₀ .tc) α}

theorem tail_next (g : ℕ → CIx) (n : ℕ) (h15 : 15 ≤ n) (hn : n < 45) (hd : dut c (g n) 0 = {0} ∧ ∀ r, 1 ≤ r → dut c (g n) r = ∅)
    {sem : DmaSem sig} (hS : SemLoc.dma sem = semOf (g n)) {sp sp' : Space} {s s' : Shape} {e e' : EltTy} {κ : Kind}
    {srcm : Memref sig .tc sp' s' e'} {dstm : Memref sig κ sp s e} {h : srcm.view.WordExact} {h' : dstm.view.WordExact}
    (hN : dstm.view.dmaCredit = amt (g n)) :
    iprop(records m K ∗ ow c 45 ∗ TW m c g n) ⊢ iprop(((ow c 45 ∗ TW m c g (n + 1)) -∗ Runs c (k ⟨⟩) Q)
      -∗ Runs c (.op (.waitDma2 sem srcm dstm h h') k) Q) := by
  unfold TW
  iintro ⟨#Hr, HO, Ht, Hd⟩ Hk
  icases (run_pop hn _) $$ Ht with ⟨⟨Hc, Hat⟩, Ht⟩
  iapply (wait_cell m K c (g n) 0 hd.1 45 (.inr rfl) hS hN) $$ [HO Hc Hat]
  · isplitr; · iexact Hr
    isplitl [HO]; · iexact HO
    isplitl [Hc] <;> iassumption
  iintro ⟨HO, Hat, -, Hp⟩
  imod (close_cell m K c (g n) 1 hd.2) $$ [Hat] with Hz
  · isplitr; · iexact Hr
    iexact Hat
  iapply Hk
  isplitl [HO]; · iexact HO
  isplitl [Ht]; · iexact Ht
  iapply (run_push h15 _)
  isplitl [Hp Hz]
  · isplitl [Hp] <;> iassumption
  · iexact Hd

/-- A wait for a copy of the device's own to have left, and for one addressed to it to have landed. -/
theorem tail_send (n b : ℕ) (h15 : 15 ≤ n) (hn : n < 45)
    {sem : DmaSem sig} (hS : SemLoc.dma sem = semOf (sendIx n)) {sp sp' : Space} {s s' : Shape} {e e' : EltTy} {κ : Kind}
    {srcm : Memref sig .tc sp' s' e'} {dstm : Memref sig κ sp s e} {h : srcm.view.WordExact} {h' : dstm.view.WordExact}
    (hN : dstm.view.dmaCredit = amt (sendIx n)) :
    iprop(records m K ∗ ow c 45 ∗ TW m c sendIx n ∗ TW m c oweIx b) ⊢ iprop(((records m K ∗ ow c 45 ∗ TW m c sendIx (n + 1) ∗ TW m c oweIx b) -∗ Runs c (k ⟨⟩) Q)
      -∗ Runs c (.op (.waitDma2 sem srcm dstm h h') k) Q) := by
  iintro ⟨#Hr, HO, Ha, Hb⟩ Hk
  iapply (tail_next m K c sendIx n h15 hn (send_duty c n h15 hn) hS hN) $$ [HO Ha]
  · isplitr; · iexact Hr
    isplitl [HO] <;> iassumption
  iintro ⟨HO, Ha⟩
  iapply Hk
  isplitr; · iexact Hr
  isplitl [HO]; · iexact HO
  isplitl [Ha] <;> iassumption
theorem tail_recv (b n : ℕ) (h15 : 15 ≤ n) (hn : n < 45)
    {sem : DmaSem sig} (hS : SemLoc.dma sem = semOf (oweIx n)) {sp sp' : Space} {s s' : Shape} {e e' : EltTy} {κ : Kind}
    {srcm : Memref sig .tc sp' s' e'} {dstm : Memref sig κ sp s e} {h : srcm.view.WordExact} {h' : dstm.view.WordExact}
    (hN : dstm.view.dmaCredit = amt (oweIx n)) :
    iprop(records m K ∗ ow c 45 ∗ TW m c sendIx b ∗ TW m c oweIx n) ⊢ iprop(((records m K ∗ ow c 45 ∗ TW m c sendIx b ∗ TW m c oweIx (n + 1)) -∗ Runs c (k ⟨⟩) Q)
      -∗ Runs c (.op (.waitDma2 sem srcm dstm h h') k) Q) := by
  iintro ⟨#Hr, HO, Ha, Hb⟩ Hk
  iapply (tail_next m K c oweIx n h15 hn (owe_duty c n h15 hn) hS hN) $$ [HO Hb]
  · isplitr; · iexact Hr
    isplitl [HO] <;> iassumption
  iintro ⟨HO, Hb⟩
  iapply Hk
  isplitr; · iexact Hr
  isplitl [HO]; · iexact HO
  isplitl [Ha] <;> iassumption

theorem tail_begin :
    iprop((bigSep (Finset.Ico 15 45) (sentCred (F := F) c)) ∗ (bigSep (Finset.Ico 15 45) fun i => atPos ER (cell (c, sendIx i)) 0 ∅ 0)
      ∗ (bigSep (Finset.Ico 15 45) fun i => cred (tallyAt (cell (c, oweIx i)) () (amt (oweIx i)))) ∗ (bigSep (Finset.Ico 15 45) fun i => atPos ER (cell (c, oweIx i)) 0 ∅ 0))
      ⊢ iprop(TW m c sendIx 15 ∗ TW m c oweIx 15) := by
  unfold TW
  rw [bigSep_sep' (Finset.Ico 15 45), bigSep_sep' (Finset.Ico 15 45)]
  iintro ⟨H1, H2, H3, H4⟩
  isplitl [H1 H2]
  · isplitl
    · isplitl [H1]
      · iexact H1
      · iexact H2
    · iapply (run_none le_rfl _); iempintro
  · isplitl
    · isplitl [H3] <;> iassumption
    · iapply (run_none le_rfl _); iempintro

/-- When all have been waited for, every buffer is whole again. -/
theorem tail_end :
    iprop((TW m c sendIx 45 ∗ TW m c oweIx 45) ∗ yPt c (slotOf c 12) (yAll m c) ∗ aPt c 0 (amv m c) ∗ rPt c c (rAll m c) ∗ gPt c c (gAll m))
      ⊢ iprop((bigSep Finset.univ (fun p => yPt c p (yAll m c)) ∗ bigSep Finset.univ (fun k => aPt c k (amv m c))
          ∗ bigSep Finset.univ (fun s => rPt c s (rAll m c)) ∗ bigSep Finset.univ (fun s => gPt c s (gAll m)))
        ∗ (bigSep (Finset.Ico 15 45) fun i => semVal (cell (c, sendIx i)) 0) ∗ bigSep (Finset.Ico 15 45) fun i => semVal (cell (c, oweIx i)) 0) := by
  have e1 : (bigSep (Finset.Ico 15 45) fun i => pay m c (sendIx i) 0 0)
      = iprop(bigSep (Finset.univ.erase (slotOf c 12)) (fun p => yPt c p (yAll m c)) ∗ bigSep (Finset.univ.erase 0) (fun k => aPt c k (amv m c))) := by
    rw [run_split (show 15 ≤ 30 by omega) (show 30 ≤ 45 by omega),
      ← run_image _ (image_slot c) (card_erase _) (fun p => yPt c p (yAll m c)), ← run_image _ image_share (card_erase _) (fun k => aPt c k (amv m c))]
    refine congrArg₂ BIBase.sep ?_ ?_
    · exact bigSep_congr fun i hi => by
        unfold sendIx; rw [if_pos (Finset.mem_Ico.mp hi).2]; rfl
    · exact bigSep_congr fun i hi => by
        unfold sendIx; rw [if_neg (Nat.not_lt.mpr (Finset.mem_Ico.mp hi).1)]; rfl
  have e2 : (bigSep (Finset.Ico 15 45) fun i => pay m c (oweIx i) 0 0)
      = iprop(bigSep (Finset.univ.erase c) (fun s => rPt c s (rAll m c)) ∗ bigSep (Finset.univ.erase c) (fun s => gPt c s (gAll m))) := by
    rw [run_split (show 15 ≤ 30 by omega) (show 30 ≤ 45 by omega),
      ← run_image _ (image_from c) (card_erase c) (fun s => rPt c s (rAll m c)), ← run_image _ (image_back c) (card_erase c) (fun s => gPt c s (gAll m))]
    refine congrArg₂ BIBase.sep ?_ ?_
    · exact bigSep_congr fun i hi => by
        unfold oweIx; rw [if_neg (Nat.not_lt.mpr (Finset.mem_Ico.mp hi).1), if_pos (Finset.mem_Ico.mp hi).2]; rfl
    · exact bigSep_congr fun i hi => by
        unfold oweIx; rw [if_neg (Nat.not_lt.mpr (Nat.le_trans (by omega) (Finset.mem_Ico.mp hi).1)), if_neg (Nat.not_lt.mpr (Finset.mem_Ico.mp hi).1)]; rfl
  rw [bigSep_univ_at (fun p => yPt c p (yAll m c)) (slotOf c 12), bigSep_univ_at (fun k => aPt c k (amv m c)) 0,
    bigSep_univ_at (fun s => rPt c s (rAll m c)) c, bigSep_univ_at (fun s => gPt c s (gAll m)) c]
  unfold TW
  rw [bigSep_sep' (Finset.Ico 15 45), bigSep_sep' (Finset.Ico 15 45), e1, e2]
  iintro ⟨⟨⟨-, ⟨⟨H1, H2⟩, Hs⟩⟩, ⟨-, ⟨⟨H3, H4⟩, Ho⟩⟩⟩, G1, G2, G3, G4⟩
  isplitl [H1 H2 H3 H4 G1 G2 G3 G4]
  · isplitl [H1 G1]; · isplitl [G1] <;> iassumption
    isplitl [H2 G2]; · isplitl [G2] <;> iassumption
    isplitl [H3 G3]; · isplitl [G3] <;> iassumption
    isplitl [G4] <;> iassumption
  · isplitl [Hs] <;> iassumption

end Tail

end Cert.KernelIdeal.Run

end
-- ==== Proof.IdealSync.lean ====
/-
# The parts of the kernel that synchronise and copy

The kernel's text is cut into parts; here are those that only signal, send and wait. Every step is one of a numbered
run, so each part is a stretch of its run.
-/
module

public import proofs.«01_k».proof.Proof.IdealRuns

@[expose] public section

set_option maxRecDepth 16384

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ShareLeaves (leaf pointsTo_leaves)

variable {F : FTy → Type} [FloatOps F]

local notation "𝕄" => MT nD τ sig Unit (Elt F) ℕ UU ℕ

variable (m : (ℓ : Loc nD τ sig) → Buf (Elt F) ℓ)

/-- A part of the kernel's text, applied to the kernel's buffers and semaphores. -/
abbrev on {β : Sort _} (f : (arg0 : Memref sig .tc .hbm S256x4096 .f32) → arg0.IsWhole → (arg1 : Memref sig .tc .hbm S4096x2048 .f32) → arg1.IsWhole
    → (arg2 : Memref sig .tc .vmem S4096x128 .f32) → arg2.IsWhole → (arg3 : Memref sig .tc .vmem S256x4096 .f32) → arg3.IsWhole
    → (arg4 : Memref sig .tc .vmem S256x4096 .bf16) → arg4.IsWhole → (arg5 : Memref sig .tc .vmem S2x4096x512 .f32) → arg5.IsWhole
    → (arg6 : Memref sig .tc .vmem S16x256x128 .bf16) → arg6.IsWhole → (arg7 : Memref sig .tc .vmem S4096x128 .bf16) → arg7.IsWhole
    → (arg8 : Memref sig .tc .vmem S1x128 .f32) → arg8.IsWhole → (arg9 : Memref sig .tc .vmem S16x128 .f32) → arg9.IsWhole
    → DmaSems sig S_ → DmaSems sig S2 → DmaSems sig S16 → DmaSems sig S16 → DmaSems sig S16 → DmaSems sig S16 → β) : β :=
  f a0M (Memref.isWhole_whole _) a1M (Memref.isWhole_whole _) outM (Memref.isWhole_whole _) xM (Memref.isWhole_whole _) xbM (Memref.isWhole_whole _)
    wM (Memref.isWhole_whole _) yM (Memref.isWhole_whole _) rM (Memref.isWhole_whole _) aM (Memref.isWhole_whole _) gM (Memref.isWhole_whole _)
    cc0_scratch7 cc0_scratch8 cc0_scratch9 cc0_scratch10 cc0_scratch11 cc0_scratch12

/-! ## The offsets and addressees the text names -/

section Names
variable (c : Dev nD)

theorem off3_at (r : Fin 15) : k0_off3 c (k0_off3_at r).1 (k0_off3_at r).2 = ![(slotOf c (kk r.val)).val, 0, 0] := by revert c r; decide +kernel

end Names

/-! ## The steps, on what a device holds -/

section Steps
variable (K : Dev nD × CIx → ℕ) (c : Dev nD) {α : Type} {Q : α → sProp (MT nD τ sig Unit (Elt F) ℕ UU ℕ)} {k : PUnit → Prog (TpuEff nD τ sig (Elt F) Λ₀ .tc) α}

/-- While signalling; while sending slots, those of payments `n ≤ i < b` being stored; while sending the maximum; while
    waiting. -/
abbrev Sg (n : ℕ) : sProp 𝕄 := iprop(St m K c n ∗ Ln c n)
def Yi (a b : ℕ) : sProp 𝕄 := bigSep (Finset.Ico a b) fun i => yPt c (slotOf c (kk (i - 15))) (yAll m c)
abbrev Dt (n b : ℕ) : sProp 𝕄 := iprop(St m K c n ∗ Rt c n ∗ Yi m c n b)
abbrev Mt (n : ℕ) : sProp 𝕄 := iprop(St m K c n ∗ Gt c n ∗ Ap m c n)
abbrev Tl (a b : ℕ) : sProp 𝕄 := iprop(records m K ∗ ow c 45 ∗ TW m c sendIx a ∗ TW m c oweIx b)

theorem data_step (n b : ℕ) (h15 : 15 ≤ n) (hb : n < b) (hn : n < 30) {n' : Dev nD} (hn' : n' = tgt c (kk (n - 15)))
    {off3 : Fin 3 → ℕ} {off2 : Fin 2 → ℕ}
    {h3 : ∀ a, off3 a + S1x256x128.size a ≤ S16x256x128.size a} {h2 : ∀ a, off2 a + S256x128.size a ≤ S4096x128.size a}
    (ho : off3 = ![(slotOf c (kk (n - 15))).val, 0, 0]) (ho' : off2 = ![256 * c.val, 0])
    {sS sR : SemLoc sig} (hS : sS = semOf (dsIx (kk (n - 15)))) (hR : sR = semOf (drIx (kk (n - 15))))
    {hsc : (rSlice off2 h2 : Memref sig (Dev.tc n' : Thread nD τ).2.kind .vmem S256x128 .bf16).view.ref.isScScratch = false}
    {hsrc : (ySlice off3 h3).view.WordExact} {hdst : (rSlice off2 h2).view.WordExact}
    {hsem : DmaTarget.Typed .vmem sR (.remote (Dev.tc n' : Thread nD τ) (rSlice off2 h2) sS hsc : DmaTarget nD τ sig .tc .vmem S256x128 .bf16)} :
    Dt m K c n b ⊢ iprop((Dt m K c (n + 1) b -∗ Runs c (k ⟨⟩) Q)
      -∗ Runs c (.op (.enqueueDma (ySlice off3 h3) (.remote (Dev.tc n' : Thread nD τ) (rSlice off2 h2) sS hsc) sR hsrc hdst hsem) k) Q) := by
  unfold Dt Yi
  iintro ⟨HS, HR, HY⟩ Hk
  icases (run_pop hb _) $$ HY with ⟨Hy, HY⟩
  iapply (data_next m K c n h15 hn hn' ho ho' hS hR) $$ [HS HR Hy]
  · isplitl [HS]; · iexact HS
    isplitl [HR] <;> iassumption
  iintro ⟨HS, HR⟩
  iapply Hk
  isplitl [HS]; · iexact HS
  isplitl [HR] <;> iassumption

theorem runs_ret {β : Type} {R : β → sProp (MT nD τ sig Unit (Elt F) ℕ UU ℕ)} (a : β) : R a ⊢ Runs c (Prog.ret a) R := by
  unfold Runs; rw [wp_ret]; iintro H; imodintro; iexact H

/-- The waits for a slot to have left, for a block to have landed, for the maximum to have left, for one to have landed. -/
theorem tail_y (n b : ℕ) (h15 : 15 ≤ n) (hn : n < 30) {sem : DmaSem sig} (hS : SemLoc.dma sem = semOf (sendIx n))
    {off3 : Fin 3 → ℕ} {off2 : Fin 2 → ℕ}
    {h3 : ∀ a, off3 a + S1x256x128.size a ≤ S16x256x128.size a} {h2 : ∀ a, off2 a + S256x128.size a ≤ S4096x128.size a}
    {h : (rSlice off2 h2).view.WordExact} {h' : (ySlice off3 h3).view.WordExact} :
    Tl m K c n b ⊢ iprop((Tl m K c (n + 1) b -∗ Runs c (k ⟨⟩) Q) -∗ Runs c (.op (.waitDma2 sem (rSlice off2 h2) (ySlice off3 h3) h h') k) Q) :=
  tail_send m K c n b h15 (by omega) hS (by unfold sendIx; rw [if_pos hn]; rfl)
theorem tail_r (b n : ℕ) (h15 : 15 ≤ n) (hn : n < 30) {sem : DmaSem sig} (hS : SemLoc.dma sem = semOf (oweIx n))
    {off3 : Fin 3 → ℕ} {off2 : Fin 2 → ℕ}
    {h3 : ∀ a, off3 a + S1x256x128.size a ≤ S16x256x128.size a} {h2 : ∀ a, off2 a + S256x128.size a ≤ S4096x128.size a}
    {h : (ySlice off3 h3).view.WordExact} {h' : (rSlice off2 h2).view.WordExact} :
    Tl m K c b n ⊢ iprop((Tl m K c b (n + 1) -∗ Runs c (k ⟨⟩) Q) -∗ Runs c (.op (.waitDma2 sem (ySlice off3 h3) (rSlice off2 h2) h h') k) Q) :=
  tail_recv m K c b n h15 (by omega) hS (by unfold oweIx; rw [if_neg (by omega), if_pos hn]; rfl)
theorem tail_a (n b : ℕ) (h30 : 30 ≤ n) (hn : n < 45) {sem : DmaSem sig} (hS : SemLoc.dma sem = semOf (sendIx n))
    {off2 : Fin 2 → ℕ} {h2 : ∀ a, off2 a + S1x128.size a ≤ S16x128.size a}
    {h : (gSlice off2 h2).view.WordExact} {h' : aM.view.WordExact} :
    Tl m K c n b ⊢ iprop((Tl m K c (n + 1) b -∗ Runs c (k ⟨⟩) Q) -∗ Runs c (.op (.waitDma2 sem (gSlice off2 h2) aM h h') k) Q) :=
  tail_send m K c n b (by omega) hn hS (by unfold sendIx; rw [if_neg (by omega)]; rfl)
theorem tail_g (b n : ℕ) (h30 : 30 ≤ n) (hn : n < 45) {sem : DmaSem sig} (hS : SemLoc.dma sem = semOf (oweIx n))
    {off2 : Fin 2 → ℕ} {h2 : ∀ a, off2 a + S1x128.size a ≤ S16x128.size a}
    {h : aM.view.WordExact} {h' : (gSlice off2 h2).view.WordExact} :
    Tl m K c b n ⊢ iprop((Tl m K c b (n + 1) -∗ Runs c (k ⟨⟩) Q) -∗ Runs c (.op (.waitDma2 sem aM (gSlice off2 h2) h h') k) Q) :=
  tail_recv m K c b n (by omega) hn hS (by unfold oweIx; rw [if_neg (by omega), if_neg (by omega)]; rfl)

end Steps

/-! ## The parts -/

section Parts
variable (K : Dev nD × CIx → ℕ) (c : Dev nD)

/-- When every payment is made the device waits. -/
theorem waits_begin : iprop(Mt m K c 45 ∗ (bigSep (Finset.Ico 15 45) fun i => atPos ER (cell (c, sendIx i)) 0 ∅ 0)
      ∗ (bigSep (Finset.Ico 15 45) fun i => cred (tallyAt (cell (c, oweIx i)) () (amt (oweIx i)))) ∗ (bigSep (Finset.Ico 15 45) fun i => atPos ER (cell (c, oweIx i)) 0 ∅ 0))
      ⊢ Tl m K c 15 15 := by
  unfold Mt Tl St
  iintro ⟨⟨⟨#Hr, HO, -, Hc⟩, -, -⟩, H2, H3, H4⟩
  isplitr; · iexact Hr
  isplitl [HO]; · iexact HO
  iapply (tail_begin m c)
  isplitl [Hc]; · iexact Hc
  isplitl [H2]; · iexact H2
  isplitl [H3] <;> iassumption

theorem part2_ok (v2 : BitVec 32) (v27 : BitVec 32) {Q : (BitVec 32) → sProp (MT nD τ sig Unit (Elt F) ℕ UU ℕ)} :
    iprop(Sg m K c 0 ∗ (∀ x, Sg m K c 6 -∗ Q x)) ⊢ Runs c (on (k0_part2 (F := F)) c v2 (SemArray.scalar (sig.barrier 0 rfl)) v27) Q := by
  simp only [k0_part2_eq_skeleton]; unfold k0_part2_skel
  simp only [semSignalWord, semWaitWord, Prog.lift, Prog.bind_op, Prog.bind_ret, Prog.pure_eq_ret]
  iintro ⟨H, Hk⟩
  iapply (sig_next m K c 0 (by decide) (n' := ⟨k0_dev1 c, k0_dev1_lt c⟩) (Fin.ext (k0_dev1_eq c))) $$ H; iintro H
  iapply (sig_next m K c 1 (by decide) (n' := ⟨k0_dev2 c, k0_dev2_lt c⟩) (Fin.ext (k0_dev2_eq c))) $$ H; iintro H
  iapply (sig_next m K c 2 (by decide) (n' := ⟨k0_dev3 c, k0_dev3_lt c⟩) (Fin.ext (k0_dev3_eq c))) $$ H; iintro H
  iapply (sig_next m K c 3 (by decide) (n' := ⟨k0_dev4 c, k0_dev4_lt c⟩) (Fin.ext (k0_dev4_eq c))) $$ H; iintro H
  iapply (sig_next m K c 4 (by decide) (n' := ⟨k0_dev5 c, k0_dev5_lt c⟩) (Fin.ext (k0_dev5_eq c))) $$ H; iintro H
  iapply (sig_next m K c 5 (by decide) (n' := ⟨k0_dev6 c, k0_dev6_lt c⟩) (Fin.ext (k0_dev6_eq c))) $$ H; iintro H
  iapply (runs_ret c)
  iapply Hk; iexact H

theorem part3_ok (v2 : BitVec 32) (v51 : BitVec 32) {Q : (BitVec 32) → sProp (MT nD τ sig Unit (Elt F) ℕ UU ℕ)} :
    iprop(Sg m K c 6 ∗ (∀ x, Sg m K c 12 -∗ Q x)) ⊢ Runs c (on (k0_part3 (F := F)) c v2 (SemArray.scalar (sig.barrier 0 rfl)) v51) Q := by
  simp only [k0_part3_eq_skeleton]; unfold k0_part3_skel
  simp only [semSignalWord, semWaitWord, Prog.lift, Prog.bind_op, Prog.bind_ret, Prog.pure_eq_ret]
  iintro ⟨H, Hk⟩
  iapply (sig_next m K c 6 (by decide) (n' := ⟨k0_dev7 c, k0_dev7_lt c⟩) (Fin.ext (k0_dev7_eq c))) $$ H; iintro H
  iapply (sig_next m K c 7 (by decide) (n' := ⟨k0_dev8 c, k0_dev8_lt c⟩) (Fin.ext (k0_dev8_eq c))) $$ H; iintro H
  iapply (sig_next m K c 8 (by decide) (n' := ⟨k0_dev9 c, k0_dev9_lt c⟩) (Fin.ext (k0_dev9_eq c))) $$ H; iintro H
  iapply (sig_next m K c 9 (by decide) (n' := ⟨k0_dev10 c, k0_dev10_lt c⟩) (Fin.ext (k0_dev10_eq c))) $$ H; iintro H
  iapply (sig_next m K c 10 (by decide) (n' := ⟨k0_dev11 c, k0_dev11_lt c⟩) (Fin.ext (k0_dev11_eq c))) $$ H; iintro H
  iapply (sig_next m K c 11 (by decide) (n' := ⟨k0_dev12 c, k0_dev12_lt c⟩) (Fin.ext (k0_dev12_eq c))) $$ H; iintro H
  iapply (runs_ret c)
  iapply Hk; iexact H

theorem part6_ok (v2 : BitVec 32) (v87 : BitVec 32) (v132 : BitVec 32) {Q : (Σ' (v135 : BitVec 32) (v150 : BitVec 32) (v162 : BitVec 32), BitVec 32) → sProp (MT nD τ sig Unit (Elt F) ℕ UU ℕ)} :
    iprop(Dt m K c 15 19 ∗ (∀ x, Dt m K c 17 19 -∗ Q x)) ⊢ Runs c (on (k0_part6 (F := F)) c v2 v87 v132) Q := by
  simp only [k0_part6_eq_skeleton]; unfold k0_part6_skel
  simp only [Prog.lift, Prog.bind_op, Prog.bind_ret, Prog.pure_eq_ret]
  iintro ⟨H, Hk⟩
  iapply (data_step m K c 15 19 (by decide) (by decide) (by decide) (n' := ⟨k0_dev16 c, k0_dev16_lt c⟩) (Fin.ext (k0_dev16_eq c)) (off3_at c 0) (k0_off2_eq c) rfl rfl) $$ H; iintro H
  iapply (data_step m K c 16 19 (by decide) (by decide) (by decide) (n' := ⟨k0_dev17 c, k0_dev17_lt c⟩) (Fin.ext (k0_dev17_eq c)) (off3_at c 1) (k0_off2_eq c) rfl rfl) $$ H; iintro H
  iapply (runs_ret c)
  iapply Hk; iexact H

theorem part7_ok (v2 : BitVec 32) (v3 : BitVec 32) (v87 : BitVec 32) (v162 : BitVec 32) (v164 : BitVec 32) {Q : (Σ' (v165 : BitVec 32) (v180 : BitVec 32), BitVec 32) → sProp (MT nD τ sig Unit (Elt F) ℕ UU ℕ)} :
    iprop(Dt m K c 17 19 ∗ (∀ x, Dt m K c 19 19 -∗ Q x)) ⊢ Runs c (on (k0_part7 (F := F)) c v2 v3 v87 v162 v164) Q := by
  simp only [k0_part7_eq_skeleton]; unfold k0_part7_skel
  simp only [Prog.lift, Prog.bind_op, Prog.bind_ret, Prog.pure_eq_ret]
  iintro ⟨H, Hk⟩
  iapply (data_step m K c 17 19 (by decide) (by decide) (by decide) (n' := ⟨k0_dev18 c, k0_dev18_lt c⟩) (Fin.ext (k0_dev18_eq c)) (off3_at c 2) (k0_off2_eq c) rfl rfl) $$ H; iintro H
  iapply (data_step m K c 18 19 (by decide) (by decide) (by decide) (n' := ⟨k0_dev19 c, k0_dev19_lt c⟩) (Fin.ext (k0_dev19_eq c)) (off3_at c 3) (k0_off2_eq c) rfl rfl) $$ H; iintro H
  iapply (runs_ret c)
  iapply Hk; iexact H

theorem part10_ok (v2 : BitVec 32) (v192 : BitVec 32) (v258 : BitVec 32) {Q : (Σ' (v271 : BitVec 32), BitVec 32) → sProp (MT nD τ sig Unit (Elt F) ℕ UU ℕ)} :
    iprop(Dt m K c 20 23 ∗ (∀ x, Dt m K c 22 23 -∗ Q x)) ⊢ Runs c (on (k0_part10 (F := F)) c v2 v192 v258) Q := by
  simp only [k0_part10_eq_skeleton]; unfold k0_part10_skel
  simp only [Prog.lift, Prog.bind_op, Prog.bind_ret, Prog.pure_eq_ret]
  iintro ⟨H, Hk⟩
  iapply (data_step m K c 20 23 (by decide) (by decide) (by decide) (n' := ⟨k0_dev21 c, k0_dev21_lt c⟩) (Fin.ext (k0_dev21_eq c)) (off3_at c 5) (k0_off2_eq c) rfl rfl) $$ H; iintro H
  iapply (data_step m K c 21 23 (by decide) (by decide) (by decide) (n' := ⟨k0_dev22 c, k0_dev22_lt c⟩) (Fin.ext (k0_dev22_eq c)) (off3_at c 6) (k0_off2_eq c) rfl rfl) $$ H; iintro H
  iapply (runs_ret c)
  iapply Hk; iexact H

theorem part13_ok (v2 : BitVec 32) (v298 : BitVec 32) (v354 : BitVec 32) {Q : (Σ' (v369 : BitVec 32) (v384 : BitVec 32), BitVec 32) → sProp (MT nD τ sig Unit (Elt F) ℕ UU ℕ)} :
    iprop(Dt m K c 24 27 ∗ (∀ x, Dt m K c 26 27 -∗ Q x)) ⊢ Runs c (on (k0_part13 (F := F)) c v2 v298 v354) Q := by
  simp only [k0_part13_eq_skeleton]; unfold k0_part13_skel
  simp only [Prog.lift, Prog.bind_op, Prog.bind_ret, Prog.pure_eq_ret]
  iintro ⟨H, Hk⟩
  iapply (data_step m K c 24 27 (by decide) (by decide) (by decide) (n' := ⟨k0_dev25 c, k0_dev25_lt c⟩) (Fin.ext (k0_dev25_eq c)) (off3_at c 9) (k0_off2_eq c) rfl rfl) $$ H; iintro H
  iapply (data_step m K c 25 27 (by decide) (by decide) (by decide) (n' := ⟨k0_dev26 c, k0_dev26_lt c⟩) (Fin.ext (k0_dev26_eq c)) (off3_at c 10) (k0_off2_eq c) rfl rfl) $$ H; iintro H
  iapply (runs_ret c)
  iapply Hk; iexact H

theorem part16_ok (v2 : BitVec 32) (v396 : BitVec 32) (v450 : BitVec 32) (c0_i32_354 : BitVec 32) {Q : (Σ' (v463 : BitVec 32), BitVec 32) → sProp (MT nD τ sig Unit (Elt F) ℕ UU ℕ)} :
    iprop(Dt m K c 27 30 ∗ (∀ x, Dt m K c 29 30 -∗ Q x)) ⊢ Runs c (on (k0_part16 (F := F)) c v2 v396 v450 c0_i32_354) Q := by
  simp only [k0_part16_eq_skeleton]; unfold k0_part16_skel
  simp only [Prog.lift, Prog.bind_op, Prog.bind_ret, Prog.pure_eq_ret]
  iintro ⟨H, Hk⟩
  iapply (data_step m K c 27 30 (by decide) (by decide) (by decide) (n' := ⟨k0_dev28 c, k0_dev28_lt c⟩) (Fin.ext (k0_dev28_eq c)) (off3_at c 12) (k0_off2_eq c) rfl rfl) $$ H; iintro H
  iapply (data_step m K c 28 30 (by decide) (by decide) (by decide) (n' := ⟨k0_dev29 c, k0_dev29_lt c⟩) (Fin.ext (k0_dev29_eq c)) (off3_at c 13) (k0_off2_eq c) rfl rfl) $$ H; iintro H
  iapply (runs_ret c)
  iapply Hk; iexact H

theorem part18_ok (v2 : BitVec 32) (v516 : BitVec 32) {Q : (Σ' (v517 : BitVec 32) (v526 : BitVec 32) (v535 : BitVec 32), BitVec 32) → sProp (MT nD τ sig Unit (Elt F) ℕ UU ℕ)} :
    iprop(Mt m K c 32 ∗ (∀ x, Mt m K c 35 -∗ Q x)) ⊢ Runs c (on (k0_part18 (F := F)) c v2 v516) Q := by
  simp only [k0_part18_eq_skeleton]; unfold k0_part18_skel
  simp only [Prog.lift, Prog.bind_op, Prog.bind_ret, Prog.pure_eq_ret]
  iintro ⟨H, Hk⟩
  iapply (max_next m K c 32 (by decide) (by decide) (n' := ⟨k0_dev33 c, k0_dev33_lt c⟩) (Fin.ext (k0_dev33_eq c)) (k0_off7_eq c) rfl rfl) $$ H; iintro H
  iapply (max_next m K c 33 (by decide) (by decide) (n' := ⟨k0_dev34 c, k0_dev34_lt c⟩) (Fin.ext (k0_dev34_eq c)) (k0_off7_eq c) rfl rfl) $$ H; iintro H
  iapply (max_next m K c 34 (by decide) (by decide) (n' := ⟨k0_dev35 c, k0_dev35_lt c⟩) (Fin.ext (k0_dev35_eq c)) (k0_off7_eq c) rfl rfl) $$ H; iintro H
  iapply (runs_ret c)
  iapply Hk; iexact H

theorem part19_ok (v2 : BitVec 32) {Q : (Σ' (v553 : BitVec 32) (v562 : BitVec 32) (v571 : BitVec 32) (v579 : BitVec 32), BitVec 32) → sProp (MT nD τ sig Unit (Elt F) ℕ UU ℕ)} :
    iprop(Mt m K c 35 ∗ (∀ x, Mt m K c 39 -∗ Q x)) ⊢ Runs c (on (k0_part19 (F := F)) c v2) Q := by
  simp only [k0_part19_eq_skeleton]; unfold k0_part19_skel
  simp only [Prog.lift, Prog.bind_op, Prog.bind_ret, Prog.pure_eq_ret]
  iintro ⟨H, Hk⟩
  iapply (max_next m K c 35 (by decide) (by decide) (n' := ⟨k0_dev36 c, k0_dev36_lt c⟩) (Fin.ext (k0_dev36_eq c)) (k0_off7_eq c) rfl rfl) $$ H; iintro H
  iapply (max_next m K c 36 (by decide) (by decide) (n' := ⟨k0_dev37 c, k0_dev37_lt c⟩) (Fin.ext (k0_dev37_eq c)) (k0_off7_eq c) rfl rfl) $$ H; iintro H
  iapply (max_next m K c 37 (by decide) (by decide) (n' := ⟨k0_dev38 c, k0_dev38_lt c⟩) (Fin.ext (k0_dev38_eq c)) (k0_off7_eq c) rfl rfl) $$ H; iintro H
  iapply (max_next m K c 38 (by decide) (by decide) (n' := ⟨k0_dev39 c, k0_dev39_lt c⟩) (Fin.ext (k0_dev39_eq c)) (k0_off7_eq c) rfl rfl) $$ H; iintro H
  iapply (runs_ret c)
  iapply Hk; iexact H

theorem part20_ok (v2 : BitVec 32) (v579 : BitVec 32) (c16_i32_451 : BitVec 32) {Q : (Σ' (v580 : BitVec 32) (v589 : BitVec 32) (v598 : BitVec 32), BitVec 32) → sProp (MT nD τ sig Unit (Elt F) ℕ UU ℕ)} :
    iprop(Mt m K c 39 ∗ (∀ x, Mt m K c 42 -∗ Q x)) ⊢ Runs c (on (k0_part20 (F := F)) c v2 v579 c16_i32_451) Q := by
  simp only [k0_part20_eq_skeleton]; unfold k0_part20_skel
  simp only [Prog.lift, Prog.bind_op, Prog.bind_ret, Prog.pure_eq_ret]
  iintro ⟨H, Hk⟩
  iapply (max_next m K c 39 (by decide) (by decide) (n' := ⟨k0_dev40 c, k0_dev40_lt c⟩) (Fin.ext (k0_dev40_eq c)) (k0_off7_eq c) rfl rfl) $$ H; iintro H
  iapply (max_next m K c 40 (by decide) (by decide) (n' := ⟨k0_dev41 c, k0_dev41_lt c⟩) (Fin.ext (k0_dev41_eq c)) (k0_off7_eq c) rfl rfl) $$ H; iintro H
  iapply (max_next m K c 41 (by decide) (by decide) (n' := ⟨k0_dev42 c, k0_dev42_lt c⟩) (Fin.ext (k0_dev42_eq c)) (k0_off7_eq c) rfl rfl) $$ H; iintro H
  iapply (runs_ret c)
  iapply Hk; iexact H

/-- What the waits need besides: where every cell stands, and the credits of what the others send. -/
abbrev Wt : sProp 𝕄 := iprop((bigSep (Finset.Ico 15 45) fun i => atPos ER (cell (c, sendIx i)) 0 ∅ 0)
      ∗ (bigSep (Finset.Ico 15 45) fun i => cred (tallyAt (cell (c, oweIx i)) () (amt (oweIx i)))) ∗ (bigSep (Finset.Ico 15 45) fun i => atPos ER (cell (c, oweIx i)) 0 ∅ 0))

theorem part21_ok (v2 : BitVec 32) (v135 : BitVec 32) {Q : (Σ' (v616 : BitVec 32), BitVec 32) → sProp (MT nD τ sig Unit (Elt F) ℕ UU ℕ)} :
    iprop((Mt m K c 42 ∗ Wt (F := F) c) ∗ (∀ x, Tl m K c 16 15 -∗ Q x)) ⊢ Runs c (on (k0_part21 (F := F)) c v2 v135) Q := by
  simp only [k0_part21_eq_skeleton]; unfold k0_part21_skel
  simp only [Prog.lift, Prog.bind_op, Prog.bind_ret, Prog.pure_eq_ret]
  iintro ⟨⟨H, HW⟩, Hk⟩
  iapply (max_next m K c 42 (by decide) (by decide) (n' := ⟨k0_dev43 c, k0_dev43_lt c⟩) (Fin.ext (k0_dev43_eq c)) (k0_off7_eq c) rfl rfl) $$ H; iintro H
  iapply (max_next m K c 43 (by decide) (by decide) (n' := ⟨k0_dev44 c, k0_dev44_lt c⟩) (Fin.ext (k0_dev44_eq c)) (k0_off7_eq c) rfl rfl) $$ H; iintro H
  iapply (max_next m K c 44 (by decide) (by decide) (n' := ⟨k0_dev45 c, k0_dev45_lt c⟩) (Fin.ext (k0_dev45_eq c)) (k0_off7_eq c) rfl rfl) $$ H; iintro H
  ihave H := (waits_begin m K c) $$ [H HW]
  · isplitl [H] <;> iassumption
  iapply (tail_y m K c 15 15 (by decide) (by decide) rfl) $$ H; iintro H
  iapply (runs_ret c)
  iapply Hk; iexact H

theorem part22_ok (v150 : BitVec 32) (v165 : BitVec 32) {Q : PUnit → sProp (MT nD τ sig Unit (Elt F) ℕ UU ℕ)} :
    iprop(Tl m K c 16 15 ∗ (∀ x, Tl m K c 18 18 -∗ Q x)) ⊢ Runs c (on (k0_part22 (F := F)) c v150 v165) Q := by
  simp only [k0_part22_eq_skeleton]; unfold k0_part22_skel
  simp only [Prog.lift, Prog.bind_op, Prog.bind_ret, Prog.pure_eq_ret]
  iintro ⟨H, Hk⟩
  iapply (tail_r m K c 16 15 (by decide) (by decide) rfl) $$ H; iintro H
  iapply (tail_y m K c 16 16 (by decide) (by decide) rfl) $$ H; iintro H
  iapply (tail_r m K c 17 16 (by decide) (by decide) rfl) $$ H; iintro H
  iapply (tail_y m K c 17 17 (by decide) (by decide) rfl) $$ H; iintro H
  iapply (tail_r m K c 18 17 (by decide) (by decide) rfl) $$ H; iintro H
  iapply (runs_ret c)
  iapply Hk; iexact H

theorem part23_ok (v180 : BitVec 32) (v241 : BitVec 32) {Q : PUnit → sProp (MT nD τ sig Unit (Elt F) ℕ UU ℕ)} :
    iprop(Tl m K c 18 18 ∗ (∀ x, Tl m K c 20 20 -∗ Q x)) ⊢ Runs c (on (k0_part23 (F := F)) c v180 v241) Q := by
  simp only [k0_part23_eq_skeleton]; unfold k0_part23_skel
  simp only [Prog.lift, Prog.bind_op, Prog.bind_ret, Prog.pure_eq_ret]
  iintro ⟨H, Hk⟩
  iapply (tail_y m K c 18 18 (by decide) (by decide) rfl) $$ H; iintro H
  iapply (tail_r m K c 19 18 (by decide) (by decide) rfl) $$ H; iintro H
  iapply (tail_y m K c 19 19 (by decide) (by decide) rfl) $$ H; iintro H
  iapply (tail_r m K c 20 19 (by decide) (by decide) rfl) $$ H; iintro H
  iapply (runs_ret c)
  iapply Hk; iexact H

theorem part24_ok (v256 : BitVec 32) (v271 : BitVec 32) {Q : PUnit → sProp (MT nD τ sig Unit (Elt F) ℕ UU ℕ)} :
    iprop(Tl m K c 20 20 ∗ (∀ x, Tl m K c 23 22 -∗ Q x)) ⊢ Runs c (on (k0_part24 (F := F)) c v256 v271) Q := by
  simp only [k0_part24_eq_skeleton]; unfold k0_part24_skel
  simp only [Prog.lift, Prog.bind_op, Prog.bind_ret, Prog.pure_eq_ret]
  iintro ⟨H, Hk⟩
  iapply (tail_y m K c 20 20 (by decide) (by decide) rfl) $$ H; iintro H
  iapply (tail_r m K c 21 20 (by decide) (by decide) rfl) $$ H; iintro H
  iapply (tail_y m K c 21 21 (by decide) (by decide) rfl) $$ H; iintro H
  iapply (tail_r m K c 22 21 (by decide) (by decide) rfl) $$ H; iintro H
  iapply (tail_y m K c 22 22 (by decide) (by decide) rfl) $$ H; iintro H
  iapply (runs_ret c)
  iapply Hk; iexact H

theorem part25_ok (v286 : BitVec 32) (v339 : BitVec 32) (v354 : BitVec 32) {Q : PUnit → sProp (MT nD τ sig Unit (Elt F) ℕ UU ℕ)} :
    iprop(Tl m K c 23 22 ∗ (∀ x, Tl m K c 25 24 -∗ Q x)) ⊢ Runs c (on (k0_part25 (F := F)) c v286 v339 v354) Q := by
  simp only [k0_part25_eq_skeleton]; unfold k0_part25_skel
  simp only [Prog.lift, Prog.bind_op, Prog.bind_ret, Prog.pure_eq_ret]
  iintro ⟨H, Hk⟩
  iapply (tail_r m K c 23 22 (by decide) (by decide) rfl) $$ H; iintro H
  iapply (tail_y m K c 23 23 (by decide) (by decide) rfl) $$ H; iintro H
  iapply (tail_r m K c 24 23 (by decide) (by decide) rfl) $$ H; iintro H
  iapply (tail_y m K c 24 24 (by decide) (by decide) rfl) $$ H; iintro H
  iapply (runs_ret c)
  iapply Hk; iexact H

theorem part26_ok (v369 : BitVec 32) (v384 : BitVec 32) {Q : PUnit → sProp (MT nD τ sig Unit (Elt F) ℕ UU ℕ)} :
    iprop(Tl m K c 25 24 ∗ (∀ x, Tl m K c 27 26 -∗ Q x)) ⊢ Runs c (on (k0_part26 (F := F)) c v369 v384) Q := by
  simp only [k0_part26_eq_skeleton]; unfold k0_part26_skel
  simp only [Prog.lift, Prog.bind_op, Prog.bind_ret, Prog.pure_eq_ret]
  iintro ⟨H, Hk⟩
  iapply (tail_r m K c 25 24 (by decide) (by decide) rfl) $$ H; iintro H
  iapply (tail_y m K c 25 25 (by decide) (by decide) rfl) $$ H; iintro H
  iapply (tail_r m K c 26 25 (by decide) (by decide) rfl) $$ H; iintro H
  iapply (tail_y m K c 26 26 (by decide) (by decide) rfl) $$ H; iintro H
  iapply (runs_ret c)
  iapply Hk; iexact H

theorem part27_ok (v448 : BitVec 32) (v463 : BitVec 32) {Q : PUnit → sProp (MT nD τ sig Unit (Elt F) ℕ UU ℕ)} :
    iprop(Tl m K c 27 26 ∗ (∀ x, Tl m K c 29 29 -∗ Q x)) ⊢ Runs c (on (k0_part27 (F := F)) c v448 v463) Q := by
  simp only [k0_part27_eq_skeleton]; unfold k0_part27_skel
  simp only [Prog.lift, Prog.bind_op, Prog.bind_ret, Prog.pure_eq_ret]
  iintro ⟨H, Hk⟩
  iapply (tail_r m K c 27 26 (by decide) (by decide) rfl) $$ H; iintro H
  iapply (tail_y m K c 27 27 (by decide) (by decide) rfl) $$ H; iintro H
  iapply (tail_r m K c 28 27 (by decide) (by decide) rfl) $$ H; iintro H
  iapply (tail_y m K c 28 28 (by decide) (by decide) rfl) $$ H; iintro H
  iapply (tail_r m K c 29 28 (by decide) (by decide) rfl) $$ H; iintro H
  iapply (runs_ret c)
  iapply Hk; iexact H

theorem part28_ok (v478 : BitVec 32) (v499 : BitVec 32) (v508 : BitVec 32) {Q : PUnit → sProp (MT nD τ sig Unit (Elt F) ℕ UU ℕ)} :
    iprop(Tl m K c 29 29 ∗ (∀ x, Tl m K c 32 31 -∗ Q x)) ⊢ Runs c (on (k0_part28 (F := F)) c v478 v499 v508) Q := by
  simp only [k0_part28_eq_skeleton]; unfold k0_part28_skel
  simp only [Prog.lift, Prog.bind_op, Prog.bind_ret, Prog.pure_eq_ret]
  iintro ⟨H, Hk⟩
  iapply (tail_y m K c 29 29 (by decide) (by decide) rfl) $$ H; iintro H
  iapply (tail_r m K c 30 29 (by decide) (by decide) rfl) $$ H; iintro H
  iapply (tail_a m K c 30 30 (by decide) (by decide) rfl) $$ H; iintro H
  iapply (tail_g m K c 31 30 (by decide) (by decide) rfl) $$ H; iintro H
  iapply (tail_a m K c 31 31 (by decide) (by decide) rfl) $$ H; iintro H
  iapply (runs_ret c)
  iapply Hk; iexact H

theorem part29_ok (v517 : BitVec 32) (v526 : BitVec 32) (v535 : BitVec 32) {Q : PUnit → sProp (MT nD τ sig Unit (Elt F) ℕ UU ℕ)} :
    iprop(Tl m K c 32 31 ∗ (∀ x, Tl m K c 35 35 -∗ Q x)) ⊢ Runs c (on (k0_part29 (F := F)) c v517 v526 v535) Q := by
  simp only [k0_part29_eq_skeleton]; unfold k0_part29_skel
  simp only [Prog.lift, Prog.bind_op, Prog.bind_ret, Prog.pure_eq_ret]
  iintro ⟨H, Hk⟩
  iapply (tail_g m K c 32 31 (by decide) (by decide) rfl) $$ H; iintro H
  iapply (tail_a m K c 32 32 (by decide) (by decide) rfl) $$ H; iintro H
  iapply (tail_g m K c 33 32 (by decide) (by decide) rfl) $$ H; iintro H
  iapply (tail_a m K c 33 33 (by decide) (by decide) rfl) $$ H; iintro H
  iapply (tail_g m K c 34 33 (by decide) (by decide) rfl) $$ H; iintro H
  iapply (tail_a m K c 34 34 (by decide) (by decide) rfl) $$ H; iintro H
  iapply (tail_g m K c 35 34 (by decide) (by decide) rfl) $$ H; iintro H
  iapply (runs_ret c)
  iapply Hk; iexact H

theorem part30_ok (v544 : BitVec 32) (v553 : BitVec 32) (v562 : BitVec 32) {Q : PUnit → sProp (MT nD τ sig Unit (Elt F) ℕ UU ℕ)} :
    iprop(Tl m K c 35 35 ∗ (∀ x, Tl m K c 38 38 -∗ Q x)) ⊢ Runs c (on (k0_part30 (F := F)) c v544 v553 v562) Q := by
  simp only [k0_part30_eq_skeleton]; unfold k0_part30_skel
  simp only [Prog.lift, Prog.bind_op, Prog.bind_ret, Prog.pure_eq_ret]
  iintro ⟨H, Hk⟩
  iapply (tail_a m K c 35 35 (by decide) (by decide) rfl) $$ H; iintro H
  iapply (tail_g m K c 36 35 (by decide) (by decide) rfl) $$ H; iintro H
  iapply (tail_a m K c 36 36 (by decide) (by decide) rfl) $$ H; iintro H
  iapply (tail_g m K c 37 36 (by decide) (by decide) rfl) $$ H; iintro H
  iapply (tail_a m K c 37 37 (by decide) (by decide) rfl) $$ H; iintro H
  iapply (tail_g m K c 38 37 (by decide) (by decide) rfl) $$ H; iintro H
  iapply (runs_ret c)
  iapply Hk; iexact H

theorem part31_ok (v571 : BitVec 32) (v580 : BitVec 32) (v589 : BitVec 32) {Q : PUnit → sProp (MT nD τ sig Unit (Elt F) ℕ UU ℕ)} :
    iprop(Tl m K c 38 38 ∗ (∀ x, Tl m K c 41 41 -∗ Q x)) ⊢ Runs c (on (k0_part31 (F := F)) c v571 v580 v589) Q := by
  simp only [k0_part31_eq_skeleton]; unfold k0_part31_skel
  simp only [Prog.lift, Prog.bind_op, Prog.bind_ret, Prog.pure_eq_ret]
  iintro ⟨H, Hk⟩
  iapply (tail_a m K c 38 38 (by decide) (by decide) rfl) $$ H; iintro H
  iapply (tail_g m K c 39 38 (by decide) (by decide) rfl) $$ H; iintro H
  iapply (tail_a m K c 39 39 (by decide) (by decide) rfl) $$ H; iintro H
  iapply (tail_g m K c 40 39 (by decide) (by decide) rfl) $$ H; iintro H
  iapply (tail_a m K c 40 40 (by decide) (by decide) rfl) $$ H; iintro H
  iapply (tail_g m K c 41 40 (by decide) (by decide) rfl) $$ H; iintro H
  iapply (runs_ret c)
  iapply Hk; iexact H

theorem part32_ok (v598 : BitVec 32) (v607 : BitVec 32) (v616 : BitVec 32) {Q : PUnit → sProp (MT nD τ sig Unit (Elt F) ℕ UU ℕ)} :
    iprop(Tl m K c 41 41 ∗ (∀ x, Tl m K c 45 44 -∗ Q x)) ⊢ Runs c (on (k0_part32 (F := F)) c v598 v607 v616) Q := by
  simp only [k0_part32_eq_skeleton]; unfold k0_part32_skel
  simp only [Prog.lift, Prog.bind_op, Prog.bind_ret, Prog.pure_eq_ret]
  iintro ⟨H, Hk⟩
  iapply (tail_a m K c 41 41 (by decide) (by decide) rfl) $$ H; iintro H
  iapply (tail_g m K c 42 41 (by decide) (by decide) rfl) $$ H; iintro H
  iapply (tail_a m K c 42 42 (by decide) (by decide) rfl) $$ H; iintro H
  iapply (tail_g m K c 43 42 (by decide) (by decide) rfl) $$ H; iintro H
  iapply (tail_a m K c 43 43 (by decide) (by decide) rfl) $$ H; iintro H
  iapply (tail_g m K c 44 43 (by decide) (by decide) rfl) $$ H; iintro H
  iapply (tail_a m K c 44 44 (by decide) (by decide) rfl) $$ H; iintro H
  iapply (runs_ret c)
  iapply Hk; iexact H

end Parts

end Cert.KernelIdeal.Run

end
-- ==== Proof.IdealCompute.lean ====
/-
# The parts of the kernel that load and store

The parts of the text that multiply a tile, take its maximum, and store the products; and those that read the buffers
when everything has landed.
-/
module

public import proofs.«01_k».proof.Proof.IdealSync

@[expose] public section

set_option maxRecDepth 16384

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ShareLeaves (leaf pointsTo_leaves)

variable {F : FTy → Type} [FloatOps F]

local notation "𝕄" => MT nD τ sig Unit (Elt F) ℕ UU ℕ

variable (m : (ℓ : Loc nD τ sig) → Buf (Elt F) ℓ)

/-! ## Whole buffers -/

section Whole
variable (c : Dev nD) {α : Type} {Q : α → sProp (MT nD τ sig Unit (Elt F) ℕ UU ℕ)}

theorem whole_load {s : Shape} {e : EltTy} (M : Memref sig .tc .vmem s e) {r : LoadRect s} {hl : M.view.LoadsAt r} (q : PosShare TreeShare)
    {f : M.view.ref.ty.Contents (Elt F)} {v : r.shape.Idx → Elt F e} (hv : M.view.readAt (Elt F) r f = v)
    {k : (r.shape.Idx → Elt F e) → Prog (TpuEff nD τ sig (Elt F) Λ₀ .tc) α} :
    (M.view.loc (c : Thread nD τ) ↦{q} f) ⊢ iprop(((M.view.loc (c : Thread nD τ) ↦{q} f) -∗ Runs c (k v) Q) -∗ Runs c (.op (.load M r hl) k) Q) := by
  subst hv
  exact wp_load 𝒱₀ (c : Thread nD τ) none Set.univ (m := M) (Finset.subset_univ _)

theorem whole_store {s : Shape} {e : EltTy} (M : Memref sig .tc .vmem s e) {r : Rect s} {w : r.shape.Idx → Elt F e} {v : M.view.ref.ty.Contents (Elt F)}
    (hv : ∀ f : M.view.ref.ty.Contents (Elt F), (M.access r : View sig .tc _ _ _).write (Elt F) f w Finset.univ = v)
    {hx : (M.access r : View sig .tc _ _ _).Stores Finset.univ} {hm} {k : PUnit → Prog (TpuEff nD τ sig (Elt F) Λ₀ .tc) α} :
    iprop(∃ f, M.view.loc (c : Thread nD τ) ↦{fullShare} f) ⊢ iprop(((M.view.loc (c : Thread nD τ) ↦{fullShare} v) -∗ Runs c (k ⟨⟩) Q)
      -∗ Runs c (.op (.store M r w Finset.univ hx hm) k) Q) := by
  iintro ⟨%f, H⟩ Hk
  have h := hv f
  subst h
  iapply (wp_store 𝒱₀ (c : Thread nD τ) none Set.univ (m := M) (r := r) (Mk := Finset.univ) (Finset.subset_univ _)) $$ H
  iintro H
  iapply Hk
  iexact H

/-- A whole buffer's contents are what a load of it reads, and what is stored in it is what it then holds. -/
theorem hz : (![0, 0] : Fin 2 → ℕ) = fun _ => 0 := funext fun a => by fin_cases a <;> rfl

end Whole

theorem keep (P : sProp 𝕄) : P ⊢ P := Entails.refl _
theorem yd_none (c : Dev nD) (a : ℕ) : (iprop(emp) : sProp 𝕄) ⊢ Yd m c a a := run_none le_rfl _

/-! ## The tiles of `W` -/

section Tiles
variable (K : Dev nD × CIx → ℕ) (c : Dev nD) {α : Type} {Q : α → sProp (MT nD τ sig Unit (Elt F) ℕ UU ℕ)} {k : PUnit → Prog (TpuEff nD τ sig (Elt F) Λ₀ .tc) α}

/-- The buffers `b` of `x` rounded; a tile's copy under way; a tile's copy done. -/
abbrev Xb : sProp 𝕄 := ((c : Thread nD τ).loc cc0_scratch1) ↦{fullShare} xb m c
abbrev Wr (b : Fin 2) (r : ℕ) : sProp 𝕄 := iprop(cred (tallyAt (cell (c, wIx b)) () (amt (wIx b))) ∗ atPos ER (cell (c, wIx b)) r ∅ 0)
abbrev Wf (b : Fin 2) (r : ℕ) : sProp 𝕄 :=
  iprop(wPt c b (wCont m c (2 * r + b.val + 1)) ∗ atPos ER (cell (c, wIx b)) (r + 1) ∅ 0 ∗ reached ER (cell (c, wIx b)) (r + 1))
/-- What a further copy into slot `b` needs: a share of `W`, and the right to it. -/
abbrev Wn (b : Fin 2) (q : PosShare TreeShare) : sProp 𝕄 :=
  iprop((((c : Thread nD τ).loc main_arg1) ↦{q} m ((c : Thread nD τ).loc main_arg1)) ∗ dutyTok ER (cell (c, wIx b)) 1 0)

theorem x_pay : pay m c xIx 0 0 ⊢ (((c : Thread nD τ).loc cc0_scratch0) ↦{fullShare} xv m c) := Entails.refl _
theorem w_duty (b : Fin 2) (r : ℕ) (hr : r < 2) : dut c (wIx b) r = {0} := by
  have h : ∀ (b : Fin 2) (r : Fin 2), dut c (wIx b) r.val = {0} := by intro b r; fin_cases b <;> fin_cases r <;> rfl
  exact h b ⟨r, hr⟩
theorem w_low (b : Fin 2) : lvl (semOf (wIx b)) = 0 := by revert b; decide
theorem w_pay (b : Fin 2) (r : ℕ) : pay m c (wIx b) r 0 = wPt c b (wCont m c (2 * r + b.val + 1)) := by
  fin_cases b <;> rfl

theorem w_wait (n : ℕ) (b : Fin 2) (r : ℕ) (hr : r < 2) {sem : DmaSem sig} (hS : SemLoc.dma sem = semOf (wIx b))
    {off3 : Fin 3 → ℕ} {off2 : Fin 2 → ℕ}
    {h3 : ∀ a, off3 a + S1x4096x512.size a ≤ S2x4096x512.size a} {h2 : ∀ a, off2 a + S4096x512.size a ≤ S4096x2048.size a}
    {h : (tSlice off2 h2).view.WordExact} {h' : (wSlice off3 h3).view.WordExact} :
    iprop(St m K c n ∗ Wr (F := F) c b r) ⊢ iprop(((St m K c n ∗ Wf m c b r) -∗ Runs c (k ⟨⟩) Q)
      -∗ Runs c (.op (.waitDma2 sem (tSlice off2 h2) (wSlice off3 h3) h h') k) Q) := by
  have hN : (wSlice off3 h3).view.dmaCredit = amt (wIx b) := by fin_cases b <;> rfl
  unfold St
  iintro ⟨⟨#Hr, HO, Ht, Hc⟩, Hw, Hat⟩ Hk
  iapply (wait_cell m K c (wIx b) r (w_duty c b r hr) n (.inl (w_low b)) hS hN) $$ [HO Hw Hat]
  · isplitr; · iexact Hr
    isplitl [HO]; · iexact HO
    isplitl [Hw] <;> iassumption
  iintro ⟨HO, Hat, Hre, Hp⟩
  iapply Hk
  isplitl [HO Ht Hc]
  · isplitr; · iexact Hr
    isplitl [HO]; · iexact HO
    isplitl [Ht] <;> iassumption
  · isplitl [Hp]
    · iapply (Entails.of_eq (w_pay m c b r)); iexact Hp
    · isplitl [Hat] <;> iassumption

theorem w_next (n : ℕ) (b : Fin 2) (q : PosShare TreeShare) {off3 : Fin 3 → ℕ} {off2 : Fin 2 → ℕ}
    {h3 : ∀ a, off3 a + S1x4096x512.size a ≤ S2x4096x512.size a} {h2 : ∀ a, off2 a + S4096x512.size a ≤ S4096x2048.size a}
    (ho : off3 = ![b.val, 0, 0]) (ho' : off2 = ![0, 512 * ((c.val / 4 + (2 * 1 + b.val + 1)) % 4)])
    {hsrc : (tSlice off2 h2).view.WordExact} {hdst : (wSlice off3 h3).view.WordExact} {sem : SemLoc sig} (hS : sem = semOf (wIx b))
    {hsem : DmaTarget.Typed .hbm sem (.here (wSlice off3 h3) : DmaTarget nD τ sig .tc .vmem S4096x512 .f32)} :
    iprop(St m K c n ∗ Wf m c b 0 ∗ Wn m c b q) ⊢ iprop(((St m K c n ∗ Wr (F := F) c b 1) -∗ Runs c (k ⟨⟩) Q)
      -∗ Runs c (.op (.enqueueDma (tSlice off2 h2) (.here (wSlice off3 h3)) sem hsrc hdst hsem) k) Q) := by
  unfold St
  iintro ⟨⟨#Hr, HO, Ht, Hc⟩, ⟨Hw, Hat, Hre⟩, Ha, Htok⟩ Hk
  iapply (w_begin m K c b 1 (by decide) ho ho' hS q) $$ [Ha Hw Htok Hre]
  · isplitr; · iexact Hr
    isplitl [Ha]; · iexact Ha
    isplitl [Hw]; · iexists _; iexact Hw
    isplitl [Htok] <;> iassumption
  iintro Hcr
  iapply Hk
  isplitl [HO Ht Hc]
  · isplitr; · iexact Hr
    isplitl [HO]; · iexact HO
    isplitl [Ht] <;> iassumption
  · isplitl [Hcr] <;> iassumption

end Tiles

theorem off1_at (c : Dev nD) (r : Fin 4) : k0_off1 c (BitVec.ofNat 32 (1 + r.val)) = ![0, 512 * ((c.val / 4 + (r.val + 1)) % 4)] := by
  revert c r; decide +kernel
theorem off4_at (c : Dev nD) : k0_off4 c = ![(slotOf c 12).val, 0, 0] := by revert c; decide +kernel
theorem own_slot (c : Dev nD) : slotFor c c = slotOf c 12 := by revert c; decide +kernel

/-! ## The parts -/

section Parts
variable (K : Dev nD × CIx → ℕ) (c : Dev nD)

/-- `x` and the first two tiles are fetched, and `x` is rounded. -/
theorem part1_ok (q q1 q2 : PosShare TreeShare) {Q : (Σ' (d0 : Dev nD) (v2 : BitVec 32) (v3 : BitVec 32) (v25 : Sems sig S_), BitVec 32) → sProp (MT nD τ sig Unit (Elt F) ℕ UU ℕ)} :
    iprop((records m K ∗ ow c 0 ∗ (((c : Thread nD τ).loc main_arg0) ↦{q} xv m c) ∗ (((c : Thread nD τ).loc main_arg1) ↦{q1} m ((c : Thread nD τ).loc main_arg1))
      ∗ (((c : Thread nD τ).loc main_arg1) ↦{q2} m ((c : Thread nD τ).loc main_arg1))
      ∗ (∃ f : (cc0_scratch0 : Ref sig .tc).ty.Contents (Elt F), ((c : Thread nD τ).loc cc0_scratch0) ↦{fullShare} f)
      ∗ (∃ f : (cc0_scratch1 : Ref sig .tc).ty.Contents (Elt F), ((c : Thread nD τ).loc cc0_scratch1) ↦{fullShare} f)
      ∗ (∃ f, wPt c 0 f) ∗ (∃ f, wPt c 1 f) ∗ dutyTok ER (cell (c, xIx)) 0 0 ∗ dutyTok ER (cell (c, wIx 0)) 0 0 ∗ dutyTok ER (cell (c, wIx 1)) 0 0
      ∗ atPos ER (cell (c, xIx)) 0 ∅ 0 ∗ atPos ER (cell (c, wIx 0)) 0 ∅ 0 ∗ atPos ER (cell (c, wIx 1)) 0 ∅ 0) ∗ (∀ v2 v3 v27, (ow c 0 ∗ semVal (cell (c, xIx)) 0 ∗ (((c : Thread nD τ).loc cc0_scratch0) ↦{fullShare} xv m c) ∗ Xb m c
      ∗ Wr (F := F) c 0 0 ∗ Wr (F := F) c 1 0) -∗ Q ⟨c, v2, v3, SemArray.scalar (sig.barrier 0 rfl), v27⟩))
      ⊢ Runs c (on (k0_part1 (F := F)) ) Q := by
  simp only [k0_part1_eq_skeleton]; unfold k0_part1_skel
  simp only [Prog.lift, Prog.bind_op, Prog.bind_ret, Prog.pure_eq_ret, wp_deviceId]
  iintro ⟨⟨#Hr, HO, Ha, Hb1, Hb2, Hx, Hxb, Hw0, Hw1, Tx, T0, T1, Ax, A0, A1⟩, Hk⟩
  ihave R0 := (reached_at m K (c, wIx 0)) $$ Hr
  ihave R1 := (reached_at m K (c, wIx 1)) $$ Hr
  iapply (x_begin m K c rfl q) $$ [Ha Hx Tx]
  · isplitr; · iexact Hr
    isplitl [Ha]; · iexact Ha
    isplitl [Hx] <;> iassumption
  iintro Hcx
  iapply (w_begin m K c 0 0 (by decide) rfl (off1_at c 0) rfl q1) $$ [Hb1 Hw0 T0 R0]
  · isplitr; · iexact Hr
    isplitl [Hb1]; · iexact Hb1
    isplitl [Hw0]; · iexact Hw0
    isplitl [T0] <;> iassumption
  iintro Hc0
  iapply (w_begin m K c 1 0 (by decide) rfl (off1_at c 1) rfl q2) $$ [Hb2 Hw1 T1 R1]
  · isplitr; · iexact Hr
    isplitl [Hb2]; · iexact Hb2
    isplitl [Hw1]; · iexact Hw1
    isplitl [T1] <;> iassumption
  iintro Hc1
  iapply (wait_cell m K c xIx 0 rfl 0 (.inl rfl) rfl (dstm := xM) rfl) $$ [HO Hcx Ax]
  · isplitr; · iexact Hr
    isplitl [HO]; · iexact HO
    isplitl [Hcx] <;> iassumption
  iintro ⟨HO, Ax, -, Hx⟩
  imod (close_cell m K c xIx 1 (dut_later_one c xIx (by decide) (by decide))) $$ [Ax] with Hz
  · isplitr; · iexact Hr
    iexact Ax
  ihave Hx := (x_pay m c) $$ Hx
  iapply (whole_load c xM fullShare (Memref.readAt_unit_zero (Elt F) cc0_scratch0 hz _ (xv m c))) $$ Hx; iintro Hx
  icases Hxb with ⟨%f1, Hxb⟩
  iapply (whole_load c xbM fullShare (Memref.readAt_unit_zero (Elt F) cc0_scratch1 hz _ f1)) $$ Hxb; iintro Hxb
  iapply (whole_store c xbM (fun f => Memref.write_access_unit_zero_univ (Elt F) cc0_scratch1 hz _ f (xb m c))) $$ [Hxb]
  · iexists f1; iexact Hxb
  iintro Hxb
  iapply (runs_ret c)
  iapply Hk
  isplitl [HO]; · iexact HO
  isplitl [Hz]; · iexact Hz
  isplitl [Hx]; · iexact Hx
  isplitl [Hxb]; · iexact Hxb
  isplitl [Hc0 A0]
  · isplitl [Hc0] <;> iassumption
  · isplitl [Hc1] <;> iassumption

/-- The barrier, and the product with the first tile. -/
theorem part4_ok (v2 v3 v75 : BitVec 32) {Q : (Σ' (v87 : BitVec 32), FVec F S256x512 .f32) → sProp (MT nD τ sig Unit (Elt F) ℕ UU ℕ)} :
    iprop((Sg m K c 12 ∗ cred (tallyAt (cell (c, barIx)) () 15) ∗ atPos ER (cell (c, barIx)) 0 ∅ 0 ∗ Wr (F := F) c 0 0 ∗ Xb m c) ∗ (∀ w, (St m K c 15 ∗ Rt c 15 ∗ Gt c 30 ∗ semVal (cell (c, barIx)) 0 ∗ Wf m c 0 0 ∗ Xb m c) -∗ Q ⟨w, y1 m c⟩))
      ⊢ Runs c (on (k0_part4 (F := F)) c v2 v3 (SemArray.scalar (sig.barrier 0 rfl)) v75) Q := by
  unfold y1
  simp only [k0_part4_eq_skeleton]; unfold k0_part4_skel
  simp only [semSignalWord, semWaitWord, Prog.lift, Prog.bind_op, Prog.bind_ret, Prog.pure_eq_ret]
  iintro ⟨⟨H, Hcb, Ab, HW, Hxb⟩, Hk⟩
  iapply (sig_next m K c 12 (by decide) (n' := ⟨k0_dev13 c, k0_dev13_lt c⟩) (Fin.ext (k0_dev13_eq c))) $$ H; iintro H
  iapply (sig_next m K c 13 (by decide) (n' := ⟨k0_dev14 c, k0_dev14_lt c⟩) (Fin.ext (k0_dev14_eq c))) $$ H; iintro H
  iapply (sig_next m K c 14 (by decide) (n' := ⟨k0_dev15 c, k0_dev15_lt c⟩) (Fin.ext (k0_dev15_eq c))) $$ H; iintro H
  icases H with ⟨H, -⟩
  icases (Entails.of_eq (show St m K c 15 = iprop(records m K ∗ ow c 15 ∗ bigSep (Finset.Ico 15 45) (payTok (F := F) c) ∗ bigSep (Finset.Ico 15 15) (sentCred (F := F) c)) from rfl))
    $$ H with ⟨#Hr, HO, Ht, Hs⟩
  iapply (wait_bar m K c) $$ [HO Hcb Ab]
  · isplitr; · iexact Hr
    isplitl [HO]; · iexact HO
    isplitl [Hcb] <;> iassumption
  iintro ⟨HO, Ab, Hp⟩
  icases (bar_regroup c) $$ Hp with ⟨HR, HG⟩
  imod (close_cell m K c barIx 1 (dut_later_one c barIx (by decide) (by decide))) $$ [Ab] with Hz
  · isplitr; · iexact Hr
    iexact Ab
  ihave H := (Entails.of_eq (show St m K c 15 = iprop(records m K ∗ ow c 15 ∗ bigSep (Finset.Ico 15 45) (payTok (F := F) c) ∗ bigSep (Finset.Ico 15 15) (sentCred (F := F) c)) from rfl).symm) $$ [HO Ht Hs]
  · isplitr; · iexact Hr
    isplitl [HO]; · iexact HO
    isplitl [Ht] <;> iassumption
  iapply (w_wait m K c 15 0 0 (by decide) rfl) $$ [H HW]
  · isplitl [H] <;> iassumption
  iintro ⟨H, Hw, HA⟩
  iapply (whole_load c xbM fullShare (Memref.readAt_unit_zero (Elt F) cc0_scratch1 hz _ (xb m c))) $$ Hxb; iintro Hxb
  iapply (w_load m c 0 1 rfl) $$ Hw; iintro Hw
  ihave HW := (keep (Wf m c 0 0)) $$ [Hw HA]
  · isplitl [Hw] <;> iassumption
  iapply (runs_ret c)
  iapply Hk
  isplitl [H]; · iexact H
  isplitl [HR]; · iexact HR
  isplitl [HG]; · iexact HG
  isplitl [Hz]; · iexact Hz
  isplitl [HW] <;> iassumption

/-- The first tile is stored, and the third fetched in its place. -/
theorem part5_ok (q : PosShare TreeShare) (v2 v3 : BitVec 32) {Q : (Σ' (v113 : F .f32), BitVec 32) → sProp (MT nD τ sig Unit (Elt F) ℕ UU ℕ)} :
    iprop((St m K c 15 ∗ Wf m c 0 0 ∗ Wn m c 0 q ∗ Ys (F := F) c 0) ∗ (∀ w, (St m K c 15 ∗ Wr (F := F) c 0 1 ∗ Ys (F := F) c 4 ∗ Yd m c 0 4) -∗ Q ⟨mx1 m c, w⟩))
      ⊢ Runs c (on (k0_part5 (F := F)) c v2 v3 (y1 m c)) Q := by
  unfold mx1
  simp only [k0_part5_eq_skeleton]; unfold k0_part5_skel
  simp only [Prog.lift, Prog.bind_op, Prog.bind_ret, Prog.pure_eq_ret]
  iintro ⟨⟨H, HW, HN, Hs⟩, Hk⟩
  ihave Hd := (yd_none m c 0) $$ []
  · iempintro
  iapply (w_next m K c 15 0 q rfl (off1_at c 2) rfl) $$ [H HW HN]
  · isplitl [H]; · iexact H
    isplitl [HW] <;> iassumption
  iintro ⟨H, HW⟩
  iapply (y_dead c 0 (by decide) rfl) $$ Hs; iintro %_ Hs
  iapply (y_next m c 0 0 (by decide) (by decide) rfl rfl) $$ [Hs Hd]
  · isplitl [Hs] <;> iassumption
  iintro ⟨Hs, Hd⟩
  iapply (y_dead c 1 (by decide) rfl) $$ Hs; iintro %_ Hs
  iapply (y_next m c 0 1 (by decide) (by decide) rfl rfl) $$ [Hs Hd]
  · isplitl [Hs] <;> iassumption
  iintro ⟨Hs, Hd⟩
  iapply (y_dead c 2 (by decide) rfl) $$ Hs; iintro %_ Hs
  iapply (y_next m c 0 2 (by decide) (by decide) rfl rfl) $$ [Hs Hd]
  · isplitl [Hs] <;> iassumption
  iintro ⟨Hs, Hd⟩
  iapply (y_dead c 3 (by decide) rfl) $$ Hs; iintro %_ Hs
  iapply (y_next m c 0 3 (by decide) (by decide) rfl rfl) $$ [Hs Hd]
  · isplitl [Hs] <;> iassumption
  iintro ⟨Hs, Hd⟩
  iapply (runs_ret c)
  iapply Hk
  isplitl [H]; · iexact H
  isplitl [HW]; · iexact HW
  isplitl [Hs] <;> iassumption

/-- The product with the second tile; the fourth is fetched in its place. -/
theorem part8_ok (q : PosShare TreeShare) (v3 : BitVec 32) {Q : (Σ' (v219 : F .f32) (v220 : FVec F S256x512 .bf16), FVec F S1x256x128 .bf16) → sProp (MT nD τ sig Unit (Elt F) ℕ UU ℕ)} :
    iprop((St m K c 19 ∗ Wr (F := F) c 1 0 ∗ Wn m c 1 q ∗ Xb m c ∗ Ys (F := F) c 4) ∗ ((St m K c 19 ∗ Wr (F := F) c 1 1 ∗ Xb m c ∗ Ys (F := F) c 5 ∗ Yd m c 4 5) -∗ Q ⟨mx2 m c, k0_pay12 (xb m c) (wv m c 2), k0_pay14 (xb m c) (wv m c 2)⟩))
      ⊢ Runs c (on (k0_part8 (F := F)) c v3 (mx1 m c)) Q := by
  unfold mx2
  simp only [k0_part8_eq_skeleton]; unfold k0_part8_skel
  simp only [Prog.lift, Prog.bind_op, Prog.bind_ret, Prog.pure_eq_ret]
  iintro ⟨⟨H, HW, HN, Hxb, Hs⟩, Hk⟩
  ihave Hd := (yd_none m c 4) $$ []
  · iempintro
  iapply (w_wait m K c 19 1 0 (by decide) rfl) $$ [H HW]
  · isplitl [H] <;> iassumption
  iintro ⟨H, Hw, HA⟩
  iapply (whole_load c xbM fullShare (Memref.readAt_unit_zero (Elt F) cc0_scratch1 hz _ (xb m c))) $$ Hxb; iintro Hxb
  iapply (w_load m c 1 2 rfl) $$ Hw; iintro Hw
  ihave HW := (keep (Wf m c 1 0)) $$ [Hw HA]
  · isplitl [Hw] <;> iassumption
  iapply (w_next m K c 19 1 q rfl (off1_at c 3) rfl) $$ [H HW HN]
  · isplitl [H]; · iexact H
    isplitl [HW] <;> iassumption
  iintro ⟨H, HW⟩
  iapply (y_dead c 4 (by decide) rfl) $$ Hs; iintro %_ Hs
  iapply (y_next m c 4 4 (by decide) (by decide) rfl rfl) $$ [Hs Hd]
  · isplitl [Hs] <;> iassumption
  iintro ⟨Hs, Hd⟩
  iapply (y_dead c 5 (by decide) rfl) $$ Hs; iintro %_ Hs
  iapply (runs_ret c)
  iapply Hk
  isplitl [H]; · iexact H
  isplitl [HW]; · iexact HW
  isplitl [Hxb]; · iexact Hxb
  isplitl [Hs] <;> iassumption

/-- A tile's slots, when stored, are those of the next four sends. -/
theorem tile_sends (a n : ℕ) (h : n = 15 + 4 * a) (ha : a < 3 := by decide) :
    iprop(St m K c n ∗ Rt c n ∗ Yd m c (4 * a) (4 * a + 4)) ⊢ Dt m K c n (n + 4) := by
  subst h
  have e : Yk m c (4 * a) (4 * a + 4) = Yi m c (15 + 4 * a) (15 + 4 * a + 4) := by
    unfold Yk Yi
    refine Eq.trans (bigSep_congr fun k hk => ?_) (run_shift 15 (4 * a) (4 * a + 4) (fun i => yPt c (slotOf c (kk (i - 15))) (yAll m c)))
    have hk' := Finset.mem_Ico.mp hk
    rw [Nat.add_sub_cancel_left]; unfold kk; rw [if_pos (by omega)]
  unfold Dt
  iintro ⟨H, HR, Hd⟩
  isplitl [H]; · iexact H
  isplitl [HR]; · iexact HR
  iapply (Entails.of_eq e)
  iapply (y_tile m c ⟨a, by omega⟩); iexact Hd
theorem tile_last (n : ℕ) (h : n = 27) : iprop(St m K c n ∗ Rt c n ∗ Yd m c 12 16) ⊢ iprop(yPt c (slotOf c 12) (yAll m c) ∗ Dt m K c n 30) := by
  subst h
  have e : Yk m c 13 16 = Yi m c 27 30 := by
    unfold Yk Yi
    refine Eq.trans (bigSep_congr fun k hk => ?_) (run_shift 14 13 16 (fun i => yPt c (slotOf c (kk (i - 15))) (yAll m c)))
    have hk' := Finset.mem_Ico.mp hk
    unfold kk; rw [if_neg (by omega), show 14 + k - 15 + 1 = k by omega]
  unfold Dt
  iintro ⟨H, HR, Hd⟩
  ihave Hd := (show Yd m c 12 16 ⊢ Yk m c 12 16 from y_tile m c 3) $$ Hd
  icases (show Yk m c 12 16 ⊢ iprop(yPt c (slotOf c 12) (yAll m c) ∗ Yk m c 13 16) from run_pop (by decide) _) $$ Hd with ⟨Hy, Hd⟩
  isplitl [Hy]; · iexact Hy
  isplitl [H]; · iexact H
  isplitl [HR]; · iexact HR
  iapply (Entails.of_eq e); iexact Hd

/-- The second tile is stored, and the first of its slots sent. -/
theorem part9_ok (v2 v192 : BitVec 32) {Q : (Σ' (v241 : BitVec 32) (v256 : BitVec 32), BitVec 32) → sProp (MT nD τ sig Unit (Elt F) ℕ UU ℕ)} :
    iprop((St m K c 19 ∗ Rt c 19 ∗ Ys (F := F) c 5 ∗ Yd m c 4 5) ∗ (∀ x, (Dt m K c 20 23 ∗ Ys (F := F) c 8) -∗ Q x))
      ⊢ Runs c (on (k0_part9 (F := F)) c v2 v192 (k0_pay12 (xb m c) (wv m c 2)) (k0_pay14 (xb m c) (wv m c 2))) Q := by
  simp only [k0_part9_eq_skeleton]; unfold k0_part9_skel
  simp only [Prog.lift, Prog.bind_op, Prog.bind_ret, Prog.pure_eq_ret]
  iintro ⟨⟨H, HR, Hs, Hd⟩, Hk⟩
  iapply (y_next m c 4 5 (by decide) (by decide) rfl rfl) $$ [Hs Hd]
  · isplitl [Hs] <;> iassumption
  iintro ⟨Hs, Hd⟩
  iapply (y_dead c 6 (by decide) rfl) $$ Hs; iintro %_ Hs
  iapply (y_next m c 4 6 (by decide) (by decide) rfl rfl) $$ [Hs Hd]
  · isplitl [Hs] <;> iassumption
  iintro ⟨Hs, Hd⟩
  iapply (y_dead c 7 (by decide) rfl) $$ Hs; iintro %_ Hs
  iapply (y_next m c 4 7 (by decide) (by decide) rfl rfl) $$ [Hs Hd]
  · isplitl [Hs] <;> iassumption
  iintro ⟨Hs, Hd⟩
  ihave H := (tile_sends m K c 1 19 rfl) $$ [H HR Hd]
  · isplitl [H]; · iexact H
    isplitl [HR] <;> iassumption
  iapply (data_step m K c 19 23 (by decide) (by decide) (by decide) (n' := ⟨k0_dev20 c, k0_dev20_lt c⟩) (Fin.ext (k0_dev20_eq c)) (off3_at c 4) (k0_off2_eq c) rfl rfl) $$ H; iintro H
  iapply (runs_ret c)
  iapply Hk
  isplitl [H] <;> iassumption

/-- The last slot of the second tile is sent; the product with the third. -/
theorem part11_ok (v3 : BitVec 32) {Q : (Σ' (v298 : BitVec 32) (v317 : F .f32) (v318 : FVec F S256x512 .bf16), FVec F S256x128 .bf16) → sProp (MT nD τ sig Unit (Elt F) ℕ UU ℕ)} :
    iprop((Dt m K c 22 23 ∗ Wr (F := F) c 0 1 ∗ Xb m c ∗ Ys (F := F) c 8) ∗ (∀ w, (St m K c 23 ∗ Rt c 23 ∗ Wf m c 0 1 ∗ Xb m c ∗ Ys (F := F) c 9 ∗ Yd m c 8 9) -∗ Q ⟨w, mx3 m c, k0_pay19 (xb m c) (wv m c 3), k0_pay21 (xb m c) (wv m c 3)⟩))
      ⊢ Runs c (on (k0_part11 (F := F)) c v3 (mx2 m c)) Q := by
  unfold mx3
  simp only [k0_part11_eq_skeleton]; unfold k0_part11_skel
  simp only [Prog.lift, Prog.bind_op, Prog.bind_ret, Prog.pure_eq_ret]
  iintro ⟨⟨H, HW, Hxb, Hs⟩, Hk⟩
  ihave Hd := (yd_none m c 8) $$ []
  · iempintro
  iapply (data_step m K c 22 23 (by decide) (by decide) (by decide) (n' := ⟨k0_dev23 c, k0_dev23_lt c⟩) (Fin.ext (k0_dev23_eq c)) (off3_at c 7) (k0_off2_eq c) rfl rfl) $$ H; iintro H
  icases H with ⟨H, HR, -⟩
  iapply (w_wait m K c 23 0 1 (by decide) rfl) $$ [H HW]
  · isplitl [H] <;> iassumption
  iintro ⟨H, Hw, HA⟩
  iapply (whole_load c xbM fullShare (Memref.readAt_unit_zero (Elt F) cc0_scratch1 hz _ (xb m c))) $$ Hxb; iintro Hxb
  iapply (w_load m c 0 3 rfl) $$ Hw; iintro Hw
  ihave HW := (keep (Wf m c 0 1)) $$ [Hw HA]
  · isplitl [Hw] <;> iassumption
  iapply (y_dead c 8 (by decide) rfl) $$ Hs; iintro %_ Hs
  iapply (y_next m c 8 8 (by decide) (by decide) rfl rfl) $$ [Hs Hd]
  · isplitl [Hs] <;> iassumption
  iintro ⟨Hs, Hd⟩
  iapply (runs_ret c)
  iapply Hk
  isplitl [H]; · iexact H
  isplitl [HR]; · iexact HR
  isplitl [HW]; · iexact HW
  isplitl [Hxb]; · iexact Hxb
  isplitl [Hs] <;> iassumption

/-- The third tile is stored, and the first of its slots sent. -/
theorem part12_ok (v2 v298 : BitVec 32) {Q : (Σ' (v339 : BitVec 32), BitVec 32) → sProp (MT nD τ sig Unit (Elt F) ℕ UU ℕ)} :
    iprop((St m K c 23 ∗ Rt c 23 ∗ Ys (F := F) c 9 ∗ Yd m c 8 9) ∗ (∀ x, (Dt m K c 24 27 ∗ Ys (F := F) c 12) -∗ Q x))
      ⊢ Runs c (on (k0_part12 (F := F)) c v2 v298 (k0_pay19 (xb m c) (wv m c 3)) (k0_pay21 (xb m c) (wv m c 3))) Q := by
  simp only [k0_part12_eq_skeleton]; unfold k0_part12_skel
  simp only [Prog.lift, Prog.bind_op, Prog.bind_ret, Prog.pure_eq_ret]
  iintro ⟨⟨H, HR, Hs, Hd⟩, Hk⟩
  iapply (y_dead c 9 (by decide) rfl) $$ Hs; iintro %_ Hs
  iapply (y_next m c 8 9 (by decide) (by decide) rfl rfl) $$ [Hs Hd]
  · isplitl [Hs] <;> iassumption
  iintro ⟨Hs, Hd⟩
  iapply (y_dead c 10 (by decide) rfl) $$ Hs; iintro %_ Hs
  iapply (y_next m c 8 10 (by decide) (by decide) rfl rfl) $$ [Hs Hd]
  · isplitl [Hs] <;> iassumption
  iintro ⟨Hs, Hd⟩
  iapply (y_dead c 11 (by decide) rfl) $$ Hs; iintro %_ Hs
  iapply (y_next m c 8 11 (by decide) (by decide) rfl rfl) $$ [Hs Hd]
  · isplitl [Hs] <;> iassumption
  iintro ⟨Hs, Hd⟩
  ihave H := (tile_sends m K c 2 23 rfl) $$ [H HR Hd]
  · isplitl [H]; · iexact H
    isplitl [HR] <;> iassumption
  iapply (data_step m K c 23 27 (by decide) (by decide) (by decide) (n' := ⟨k0_dev24 c, k0_dev24_lt c⟩) (Fin.ext (k0_dev24_eq c)) (off3_at c 8) (k0_off2_eq c) rfl rfl) $$ H; iintro H
  iapply (runs_ret c)
  iapply Hk
  isplitl [H] <;> iassumption

/-- The last slot of the third tile is sent; the product with the fourth. -/
theorem part14_ok (v3 v386 : BitVec 32) {Q : (Σ' (v396 : BitVec 32) (v415 : F .f32) (v416 : FVec F S256x512 .bf16), FVec F S1x256x128 .bf16) → sProp (MT nD τ sig Unit (Elt F) ℕ UU ℕ)} :
    iprop((Dt m K c 26 27 ∗ Wr (F := F) c 1 1 ∗ Xb m c ∗ Ys (F := F) c 12) ∗ (∀ w, (St m K c 27 ∗ Rt c 27 ∗ Wf m c 1 1 ∗ Xb m c ∗ Ys (F := F) c 12) -∗ Q ⟨w, mx4 m c, k0_pay27 (xb m c) (wv m c 4), k0_pay28 (xb m c) (wv m c 4)⟩))
      ⊢ Runs c (on (k0_part14 (F := F)) c v3 (mx3 m c) v386) Q := by
  unfold mx4
  simp only [k0_part14_eq_skeleton]; unfold k0_part14_skel
  simp only [Prog.lift, Prog.bind_op, Prog.bind_ret, Prog.pure_eq_ret]
  iintro ⟨⟨H, HW, Hxb, Hs⟩, Hk⟩
  iapply (data_step m K c 26 27 (by decide) (by decide) (by decide) (n' := ⟨k0_dev27 c, k0_dev27_lt c⟩) (Fin.ext (k0_dev27_eq c)) (off3_at c 11) (k0_off2_eq c) rfl rfl) $$ H; iintro H
  icases H with ⟨H, HR, -⟩
  iapply (w_wait m K c 27 1 1 (by decide) rfl) $$ [H HW]
  · isplitl [H] <;> iassumption
  iintro ⟨H, Hw, HA⟩
  iapply (whole_load c xbM fullShare (Memref.readAt_unit_zero (Elt F) cc0_scratch1 hz _ (xb m c))) $$ Hxb; iintro Hxb
  iapply (w_load m c 1 4 rfl) $$ Hw; iintro Hw
  ihave HW := (keep (Wf m c 1 1)) $$ [Hw HA]
  · isplitl [Hw] <;> iassumption
  iapply (y_dead c 12 (by decide) rfl) $$ Hs; iintro %_ Hs
  iapply (runs_ret c)
  iapply Hk
  isplitl [H]; · iexact H
  isplitl [HR]; · iexact HR
  isplitl [HW]; · iexact HW
  isplitl [Hxb] <;> iassumption

/-- The fourth tile is stored, and the device's own slot put in its receive buffer. -/
theorem part15_ok (v2 v396 : BitVec 32) {Q : (Σ' (v448 : BitVec 32) (v450 : BitVec 32), BitVec 32) → sProp (MT nD τ sig Unit (Elt F) ℕ UU ℕ)} :
    iprop((St m K c 27 ∗ Rt c 27 ∗ Ys (F := F) c 12 ∗ (∃ f, rPt (F := F) c c f)) ∗ (∀ x, (Dt m K c 27 30 ∗ yPt c (slotOf c 12) (yAll m c) ∗ rPt c c (rAll m c)) -∗ Q x))
      ⊢ Runs c (on (k0_part15 (F := F)) c v2 v396 (k0_pay27 (xb m c) (wv m c 4)) (k0_pay28 (xb m c) (wv m c 4))) Q := by
  simp only [k0_part15_eq_skeleton]; unfold k0_part15_skel
  simp only [Prog.lift, Prog.bind_op, Prog.bind_ret, Prog.pure_eq_ret]
  iintro ⟨⟨H, HR, Hs, Hr⟩, Hk⟩
  ihave Hd := (yd_none m c 12) $$ []
  · iempintro
  iapply (y_next m c 12 12 (by decide) (by decide) rfl rfl) $$ [Hs Hd]
  · isplitl [Hs] <;> iassumption
  iintro ⟨Hs, Hd⟩
  iapply (y_dead c 13 (by decide) rfl) $$ Hs; iintro %_ Hs
  iapply (y_next m c 12 13 (by decide) (by decide) rfl rfl) $$ [Hs Hd]
  · isplitl [Hs] <;> iassumption
  iintro ⟨Hs, Hd⟩
  iapply (y_dead c 14 (by decide) rfl) $$ Hs; iintro %_ Hs
  iapply (y_next m c 12 14 (by decide) (by decide) rfl rfl) $$ [Hs Hd]
  · isplitl [Hs] <;> iassumption
  iintro ⟨Hs, Hd⟩
  iapply (y_dead c 15 (by decide) rfl) $$ Hs; iintro %_ Hs
  iapply (y_next m c 12 15 (by decide) (by decide) rfl rfl) $$ [Hs Hd]
  · isplitl [Hs] <;> iassumption
  iintro ⟨Hs, Hd⟩
  icases (tile_last m K c 27 rfl) $$ [H HR Hd] with ⟨Hy, H⟩
  · isplitl [H]; · iexact H
    isplitl [HR] <;> iassumption
  iapply (y_load m c (slotOf c 12) (off4_at c)) $$ Hy; iintro Hy
  iapply (r_dead c (k0_off5_eq c)) $$ Hr; iintro %_ Hr
  iapply (r_put m c (slotOf c 12) (own_slot c) (k0_off5_eq c) rfl) $$ Hr; iintro Hr
  iapply (runs_ret c)
  iapply Hk
  isplitl [H]; · iexact H
  isplitl [Hy] <;> iassumption

theorem row_shares (f : (cc0_scratch5 : Ref sig .tc).ty.Contents (Elt F)) :
    (((c : Thread nD τ).loc cc0_scratch5) ↦{fullShare} f : sProp 𝕄) = bigSep Finset.univ fun k : Fin 16 => aPt c k f :=
  pointsTo_leaves (ℓ := (c : Thread nD τ).loc cc0_scratch5) Finset.univ f 4 fullShare
theorem row_split : (((c : Thread nD τ).loc cc0_scratch5) ↦{fullShare} amv m c) ⊢ iprop(aPt c 0 (amv m c) ∗ Ap m c 30) := by
  rw [row_shares c (amv m c), bigSep_univ_at (fun k => aPt c k (amv m c)) 0]
  unfold Ap
  rw [run_image (fun i => Fin.ofNat 16 (i - 29)) image_share (card_erase 0) (fun k => aPt c k (amv m c))]

/-- The last slot is sent, the device's maximum is put in its gather buffer, and the first copies of it are sent. -/
theorem part17_ok (v2 : BitVec 32) {Q : (Σ' (v499 : BitVec 32) (v508 : BitVec 32), BitVec 32) → sProp (MT nD τ sig Unit (Elt F) ℕ UU ℕ)} :
    iprop((Dt m K c 29 30 ∗ Gt c 30 ∗ (∃ f : (cc0_scratch5 : Ref sig .tc).ty.Contents (Elt F), ((c : Thread nD τ).loc cc0_scratch5) ↦{fullShare} f) ∗ (∃ f, gPt (F := F) c c f)) ∗ (∀ x, (Mt m K c 32 ∗ aPt c 0 (amv m c) ∗ gPt c c (gAll m)) -∗ Q x))
      ⊢ Runs c (on (k0_part17 (F := F)) c v2 (mx4 m c)) Q := by
  simp only [k0_part17_eq_skeleton]; unfold k0_part17_skel
  simp only [Prog.lift, Prog.bind_op, Prog.bind_ret, Prog.pure_eq_ret]
  iintro ⟨⟨H, HG, ⟨%f5, Ha⟩, Hg⟩, Hk⟩
  iapply (data_step m K c 29 30 (by decide) (by decide) (by decide) (n' := ⟨k0_dev30 c, k0_dev30_lt c⟩) (Fin.ext (k0_dev30_eq c)) (off3_at c 14) (k0_off2_eq c) rfl rfl) $$ H; iintro H
  icases H with ⟨H, -, -⟩
  iapply (whole_load c aM fullShare (Memref.readAt_unit_zero (Elt F) cc0_scratch5 hz _ f5)) $$ Ha; iintro Ha
  iapply (whole_store c aM (fun f => Memref.write_access_unit_zero_univ (Elt F) cc0_scratch5 hz _ f (amv m c))) $$ [Ha]
  · iexists f5; iexact Ha
  iintro Ha
  iapply (whole_load c aM fullShare (Memref.readAt_unit_zero (Elt F) cc0_scratch5 hz _ (amv m c))) $$ Ha; iintro Ha
  iapply (g_dead c (k0_off6_eq c)) $$ Hg; iintro %_ Hg
  iapply (g_put m c (k0_off6_eq c) rfl) $$ Hg; iintro Hg
  icases (row_split m c) $$ Ha with ⟨Ha0, Ha⟩
  ihave H := (keep (Mt m K c 30)) $$ [H HG Ha]
  · isplitl [H]; · iexact H
    isplitl [HG] <;> iassumption
  iapply (max_next m K c 30 (by decide) (by decide) (n' := ⟨k0_dev31 c, k0_dev31_lt c⟩) (Fin.ext (k0_dev31_eq c)) (k0_off7_eq c) rfl rfl) $$ H; iintro H
  iapply (max_next m K c 31 (by decide) (by decide) (n' := ⟨k0_dev32 c, k0_dev32_lt c⟩) (Fin.ext (k0_dev32_eq c)) (k0_off7_eq c) rfl rfl) $$ H; iintro H
  iapply (runs_ret c)
  iapply Hk
  isplitl [H]; · iexact H
  isplitl [Ha0] <;> iassumption

end Parts

end Cert.KernelIdeal.Run

end
-- ==== Proof.IdealBody.lean ====
/-
# The kernel's text on one device

The parts in order: what a device starts with, and what it ends with.
-/
module

public import proofs.«01_k».proof.Proof.IdealCompute

@[expose] public section

set_option maxRecDepth 16384

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ShareLeaves (leaf pointsTo_leaves)

variable {F : FTy → Type} [FloatOps F]

local notation "𝕄" => MT nD τ sig Unit (Elt F) ℕ UU ℕ

variable (m : (ℓ : Loc nD τ sig) → Buf (Elt F) ℓ)

/-! ## Buffers held in pieces -/

section Pieces
variable (c : Dev nD)

theorem y_blocks (f : (cc0_scratch3 : Ref sig .tc).ty.Contents (Elt F)) :
    (((c : Thread nD τ).loc cc0_scratch3) ↦{fullShare} f : sProp 𝕄) = bigSep Finset.univ fun p => yPt c p f :=
  Ring.pointsTo_blocks (ℓ := (c : Thread nD τ).loc cc0_scratch3) yS
    (fun b b' h => Finset.disjoint_left.mpr fun i hi hi' => h (Fin.ext ((Finset.mem_filter.mp hi).2.symm.trans (Finset.mem_filter.mp hi').2)))
    (Finset.eq_univ_of_forall fun i => Finset.mem_biUnion.mpr ⟨⟨(i 0).val, (i 0).isLt⟩, Finset.mem_univ _, Finset.mem_filter.mpr ⟨Finset.mem_univ _, rfl⟩⟩) f
theorem r_blocks (f : (cc0_scratch4 : Ref sig .tc).ty.Contents (Elt F)) :
    (((c : Thread nD τ).loc cc0_scratch4) ↦{fullShare} f : sProp 𝕄) = bigSep Finset.univ fun s => rPt c s f :=
  Ring.pointsTo_blocks (ℓ := (c : Thread nD τ).loc cc0_scratch4) rS
    (fun b b' h => Finset.disjoint_left.mpr fun i hi hi' => h (Fin.ext ((Finset.mem_filter.mp hi).2.symm.trans (Finset.mem_filter.mp hi').2)))
    (Finset.eq_univ_of_forall fun i => Finset.mem_biUnion.mpr ⟨⟨(i 0).val / 256, by have : (i 0).val < 4096 := (i 0).isLt; show _ < 16; omega⟩,
      Finset.mem_univ _, Finset.mem_filter.mpr ⟨Finset.mem_univ _, rfl⟩⟩) f
theorem g_blocks (f : (cc0_scratch6 : Ref sig .tc).ty.Contents (Elt F)) :
    (((c : Thread nD τ).loc cc0_scratch6) ↦{fullShare} f : sProp 𝕄) = bigSep Finset.univ fun s => gPt c s f :=
  Ring.pointsTo_blocks (ℓ := (c : Thread nD τ).loc cc0_scratch6) gS
    (fun b b' h => Finset.disjoint_left.mpr fun i hi hi' => h (Fin.ext ((Finset.mem_filter.mp hi).2.symm.trans (Finset.mem_filter.mp hi').2)))
    (Finset.eq_univ_of_forall fun i => Finset.mem_biUnion.mpr ⟨⟨(i 0).val, (i 0).isLt⟩, Finset.mem_univ _, Finset.mem_filter.mpr ⟨Finset.mem_univ _, rfl⟩⟩) f
theorem w_blocks (f : (cc0_scratch2 : Ref sig .tc).ty.Contents (Elt F)) :
    (((c : Thread nD τ).loc cc0_scratch2) ↦{fullShare} f : sProp 𝕄) = bigSep Finset.univ fun b => wPt c b f :=
  Ring.pointsTo_blocks (ℓ := (c : Thread nD τ).loc cc0_scratch2) wS
    (fun b b' h => Finset.disjoint_left.mpr fun i hi hi' => h (Fin.ext ((Finset.mem_filter.mp hi).2.symm.trans (Finset.mem_filter.mp hi').2)))
    (Finset.eq_univ_of_forall fun i => Finset.mem_biUnion.mpr ⟨⟨(i 0).val, (i 0).isLt⟩, Finset.mem_univ _, Finset.mem_filter.mpr ⟨Finset.mem_univ _, rfl⟩⟩) f

theorem w_pair (f : (cc0_scratch2 : Ref sig .tc).ty.Contents (Elt F)) :
    (((c : Thread nD τ).loc cc0_scratch2) ↦{fullShare} f : sProp 𝕄) = iprop(wPt c 0 f ∗ wPt c 1 f) :=
  (w_blocks c f).trans (bigSep_fin_two _)

/-- A buffer held at some contents. -/
abbrev Some (b : Ref sig .tc) : sProp 𝕄 := iprop(∃ f : b.ty.Contents (Elt F), ((c : Thread nD τ).loc b) ↦{fullShare} f)

theorem pt_exists {I B : Type} (s : Finset I) (A : I → B → sProp 𝕄) (f : B) :
    bigSep s (fun p => A p f) ⊢ bigSep s fun p => iprop(∃ f, A p f) :=
  bigSep_mono fun p _ => show A p f ⊢ iprop(∃ f, A p f) by iintro H; iexists f; iexact H
theorem y_slots : Some (F := F) c cc0_scratch3 ⊢ Ys (F := F) c 0 := by
  have e : (Finset.Ico 0 16).image (fun p => Fin.ofNat 16 p) = (Finset.univ : Finset (Fin 16)) := by decide
  unfold Ys
  rw [run_image (fun p => Fin.ofNat 16 p) e (by decide) (fun p => iprop(∃ f, yPt (F := F) c p f))]
  iintro ⟨%f, H⟩
  ihave H := (Entails.of_eq (y_blocks c f)) $$ H
  iapply (pt_exists _ (fun p f => yPt (F := F) c p f) f); iexact H
theorem w_slots : Some (F := F) c cc0_scratch2 ⊢ iprop((∃ f, wPt (F := F) c 0 f) ∗ ∃ f, wPt (F := F) c 1 f) := by
  iintro ⟨%f, H⟩
  ihave H := (Entails.of_eq (w_pair c f)) $$ H
  icases H with ⟨H0, H1⟩
  isplitl [H0]
  · iexists f; iexact H0
  · iexists f; iexact H1
theorem w_back (f g : (cc0_scratch2 : Ref sig .tc).ty.Contents (Elt F)) : iprop(wPt c 0 f ∗ wPt c 1 g) ⊢ Some (F := F) c cc0_scratch2 := by
  iintro ⟨H0, H1⟩
  let h : (cc0_scratch2 : Ref sig .tc).ty.Contents (Elt F) := fun i : S2x4096x512.Idx => if (i 0).val = 0 then f i else g i
  iexists h
  iapply (Entails.of_eq (w_pair c h).symm)
  isplitl [H0]
  · iapply (Entails.of_eq (pointsTo_congr fun i hi => (if_pos (Finset.mem_filter.mp hi).2).symm)); iexact H0
  · iapply (Entails.of_eq (pointsTo_congr fun i hi => (if_neg (by rw [(Finset.mem_filter.mp hi).2]; decide)).symm)); iexact H1

/-- Both buffers the others fill: what is lent at the barrier, and what the device keeps. -/
theorem rg_lend : iprop(Some (F := F) c cc0_scratch4 ∗ Some (F := F) c cc0_scratch6)
    ⊢ iprop((Ln (F := F) c 0) ∗ (∃ f, rPt (F := F) c c f) ∗ ∃ f, gPt (F := F) c c f) := by
  unfold Ln
  rw [run_image (fun i => nb c (i + 1)) (image_lend c) (card_erase c) (fun d => iprop((∃ f, rPt (F := F) c d f) ∗ ∃ f, gPt (F := F) c d f)), bigSep_sep']
  iintro ⟨⟨%f, HR⟩, ⟨%g, HG⟩⟩
  icases (Entails.of_eq ((r_blocks c f).trans (bigSep_univ_at (fun s => rPt c s f) c))) $$ HR with ⟨HR0, HR⟩
  icases (Entails.of_eq ((g_blocks c g).trans (bigSep_univ_at (fun s => gPt c s g) c))) $$ HG with ⟨HG0, HG⟩
  isplitl [HR HG]
  · isplitl [HR]
    · iapply (pt_exists _ (fun p f => rPt (F := F) c p f) f); iexact HR
    · iapply (pt_exists _ (fun p f => gPt (F := F) c p f) g); iexact HG
  · isplitl [HR0]
    · iexists f; iexact HR0
    · iexists g; iexact HG0

end Pieces

/-! ## The text -/

section Text
variable (K : Dev nD × CIx → ℕ) (c : Dev nD)

theorem unused_duty (r : ℕ) : dut c (dsIx 12) r = ∅ ∧ dut c (drIx 12) r = ∅ ∧ dut c (asIx 0) r = ∅ ∧ dut c (arIx 0) r = ∅ := by
  refine ⟨?_, ?_, ?_, ?_⟩ <;> exact if_neg fun h => h.2 rfl

theorem runs_bind {α β : Type} (p : Prog (TpuEff nD τ sig (Elt F) Λ₀ .tc) α) (k : α → Prog (TpuEff nD τ sig (Elt F) Λ₀ .tc) β)
    {Q : β → sProp (MT nD τ sig Unit (Elt F) ℕ UU ℕ)} : Runs c p (fun x => Runs c (k x) Q) ⊢ Runs c (p >>= k) Q := by
  unfold Runs; rw [wp_bind]

/-- What a device starts with: the records; what it owes; its rows of `x` and shares of `W`; its buffers; its rights to pay;
    where its cells stand; and the credits of what the others send. -/
def Start (q q1 q2 q3 q4 : PosShare TreeShare) : sProp 𝕄 :=
  iprop((records m K ∗ ow c 0 ∗ bigSep (Finset.Ico 0 45) (payTok (F := F) c))
    ∗ ((((c : Thread nD τ).loc main_arg0) ↦{q} xv m c) ∗ (((c : Thread nD τ).loc main_arg1) ↦{q1} m ((c : Thread nD τ).loc main_arg1))
      ∗ (((c : Thread nD τ).loc main_arg1) ↦{q2} m ((c : Thread nD τ).loc main_arg1)) ∗ (((c : Thread nD τ).loc main_arg1) ↦{q3} m ((c : Thread nD τ).loc main_arg1))
      ∗ (((c : Thread nD τ).loc main_arg1) ↦{q4} m ((c : Thread nD τ).loc main_arg1)))
    ∗ (Some (F := F) c cc0_scratch0 ∗ Some (F := F) c cc0_scratch1 ∗ Some (F := F) c cc0_scratch2 ∗ Some (F := F) c cc0_scratch3
      ∗ Some (F := F) c cc0_scratch4 ∗ Some (F := F) c cc0_scratch5 ∗ Some (F := F) c cc0_scratch6) ∗ Some (F := F) c cc0_stg0_0
    ∗ (dutyTok ER (cell (c, xIx)) 0 0 ∗ dutyTok ER (cell (c, wIx 0)) 0 0 ∗ dutyTok ER (cell (c, wIx 1)) 0 0
      ∗ dutyTok ER (cell (c, wIx 0)) 1 0 ∗ dutyTok ER (cell (c, wIx 1)) 1 0)
    ∗ (bigSep Finset.univ fun ix : CIx => atPos ER (cell (c, ix)) 0 ∅ 0)
    ∗ cred (tallyAt (cell (c, barIx)) () 15) ∗ bigSep (Finset.Ico 15 45) fun i => cred (tallyAt (cell (c, oweIx i)) () (amt (oweIx i))))

/-- What it ends with. -/
def Finish : sProp 𝕄 :=
  iprop((((c : Thread nD τ).loc cc0_stg0_0) ↦{fullShare} outAt m c) ∗ ow c 45
    ∗ (Some (F := F) c cc0_scratch0 ∗ Some (F := F) c cc0_scratch1 ∗ Some (F := F) c cc0_scratch2 ∗ Some (F := F) c cc0_scratch3
      ∗ Some (F := F) c cc0_scratch4 ∗ Some (F := F) c cc0_scratch5 ∗ Some (F := F) c cc0_scratch6)
    ∗ bigSep Finset.univ fun ix : CIx => semVal (cell (c, ix)) 0)

theorem text_ok (q q1 q2 q3 q4 : PosShare TreeShare) {Q : PUnit → sProp (MT nD τ sig Unit (Elt F) ℕ UU ℕ)} :
    iprop(Start m K c q q1 q2 q3 q4 ∗ (Finish m c -∗ Q ⟨⟩)) ⊢ Runs c (on (cc0_body (F := F))) Q := by
  unfold Start Finish
  rw [cells_split (fun ix : CIx => atPos ER (cell (c, ix)) 0 ∅ 0), cells_split (fun ix : CIx => semVal (cell (c, ix)) 0)]
  simp only [cc0_body_eq_skeleton]; unfold cc0_body_skel
  simp only [k0_part33_eq_skeleton]; unfold k0_part33_skel
  iintro ⟨⟨⟨#Hr, HO, HT⟩, ⟨Ha, Hb1, Hb2, Hb3, Hb4⟩, ⟨Hx, Hxb, Hw, Hy, HR, Ha5, HG⟩, Hout, ⟨Tx, T00, T10, T01, T11⟩, ⟨⟨Ab, Ax, A0, A1⟩, ⟨U1, U2, U3, U4⟩, As, Ao⟩, Hcb, Hco⟩, Hk⟩
  icases (w_slots c) $$ Hw with ⟨Hw0, Hw1⟩
  ihave Hs := (y_slots c) $$ Hy
  icases (rg_lend c) $$ [HR HG] with ⟨HL, Hro, Hgo⟩
  · isplitl [HR] <;> iassumption
  ihave HW := (keep (Wt (F := F) c)) $$ [As Hco Ao]
  · isplitl [As]; · iexact As
    isplitl [Hco] <;> iassumption
  ihave N0 := (keep (Wn m c 0 q3)) $$ [Hb3 T01]
  · isplitl [Hb3] <;> iassumption
  ihave N1 := (keep (Wn m c 1 q4)) $$ [Hb4 T11]
  · isplitl [Hb4] <;> iassumption
  iapply (runs_bind c)
  iapply (runs_bind c)
  iapply (part1_ok m K c q q1 q2)
  isplitl [HO Ha Hb1 Hb2 Hx Hxb Hw0 Hw1 Tx T00 T10 Ax A0 A1]
  · isplitr; · iexact Hr
    isplitl [HO]; · iexact HO
    isplitl [Ha]; · iexact Ha
    isplitl [Hb1]; · iexact Hb1
    isplitl [Hb2]; · iexact Hb2
    isplitl [Hx]; · iexact Hx
    isplitl [Hxb]; · iexact Hxb
    isplitl [Hw0]; · iexact Hw0
    isplitl [Hw1]; · iexact Hw1
    isplitl [Tx]; · iexact Tx
    isplitl [T00]; · iexact T00
    isplitl [T10]; · iexact T10
    isplitl [Ax]; · iexact Ax
    isplitl [A0] <;> iassumption
  iintro %_ %_ %_ ⟨HO, Zx, Hx, Hxb, W0, W1⟩
  ihave H := (keep (Sg m K c 0)) $$ [HO HT HL]
  · isplitl [HO HT]
    · unfold St; isplitr; · iexact Hr
      isplitl [HO]; · iexact HO
      isplitl [HT]; · iexact HT
      iapply (run_none (by decide) _); iempintro
    · iexact HL
  iapply (runs_bind c)
  iapply (part2_ok m K c _ _)
  isplitl [H]
  · iexact H
  iintro %_ H
  iapply (runs_bind c)
  iapply (part3_ok m K c _ _)
  isplitl [H]
  · iexact H
  iintro %_ H
  iapply (runs_bind c)
  iapply (part4_ok m K c _ _ _)
  isplitl [H Hcb Ab W0 Hxb]
  · isplitl [H]; · iexact H
    isplitl [Hcb]; · iexact Hcb
    isplitl [Ab]; · iexact Ab
    isplitl [W0] <;> iassumption
  iintro %_ ⟨H, HRt, HGt, Zb, W0, Hxb⟩
  iapply (runs_bind c)
  iapply (part5_ok m K c q3 _ _)
  isplitl [H W0 N0 Hs]
  · isplitl [H]; · iexact H
    isplitl [W0]; · iexact W0
    isplitl [N0] <;> iassumption
  iintro %_ ⟨H, W0, Hs, Hd⟩
  ihave H := (tile_sends m K c 0 15 rfl) $$ [H HRt Hd]
  · isplitl [H]; · iexact H
    isplitl [HRt] <;> iassumption
  iapply (runs_bind c)
  iapply (part6_ok m K c _ _ _)
  isplitl [H]
  · iexact H
  iintro %_ H
  iapply (runs_bind c)
  iapply (part7_ok m K c _ _ _ _ _)
  isplitl [H]
  · iexact H
  iintro %_ H
  icases H with ⟨H, HRt, -⟩
  iapply (runs_bind c)
  iapply (part8_ok m K c q4 _)
  isplitl [H W1 N1 Hxb Hs]
  · isplitl [H]; · iexact H
    isplitl [W1]; · iexact W1
    isplitl [N1]; · iexact N1
    isplitl [Hxb] <;> iassumption
  iintro ⟨H, W1, Hxb, Hs, Hd⟩
  iapply (runs_bind c)
  iapply (part9_ok m K c _ _)
  isplitl [H HRt Hs Hd]
  · isplitl [H]; · iexact H
    isplitl [HRt]; · iexact HRt
    isplitl [Hs] <;> iassumption
  iintro %_ ⟨H, Hs⟩
  iapply (runs_bind c)
  iapply (part10_ok m K c _ _ _)
  isplitl [H]
  · iexact H
  iintro %_ H
  iapply (runs_bind c)
  iapply (part11_ok m K c _)
  isplitl [H W0 Hxb Hs]
  · isplitl [H]; · iexact H
    isplitl [W0]; · iexact W0
    isplitl [Hxb] <;> iassumption
  iintro %_ ⟨H, HRt, W0, Hxb, Hs, Hd⟩
  iapply (runs_bind c)
  iapply (part12_ok m K c _ _)
  isplitl [H HRt Hs Hd]
  · isplitl [H]; · iexact H
    isplitl [HRt]; · iexact HRt
    isplitl [Hs] <;> iassumption
  iintro %_ ⟨H, Hs⟩
  iapply (runs_bind c)
  iapply (part13_ok m K c _ _ _)
  isplitl [H]
  · iexact H
  iintro %_ H
  iapply (runs_bind c)
  iapply (part14_ok m K c _ _)
  isplitl [H W1 Hxb Hs]
  · isplitl [H]; · iexact H
    isplitl [W1]; · iexact W1
    isplitl [Hxb] <;> iassumption
  iintro %_ ⟨H, HRt, W1, Hxb, Hs⟩
  iapply (runs_bind c)
  iapply (part15_ok m K c _ _)
  isplitl [H HRt Hs Hro]
  · isplitl [H]; · iexact H
    isplitl [HRt]; · iexact HRt
    isplitl [Hs] <;> iassumption
  iintro %_ ⟨H, Hyo, Hro⟩
  iapply (runs_bind c)
  iapply (part16_ok m K c _ _ _ _)
  isplitl [H]
  · iexact H
  iintro %_ H
  iapply (runs_bind c)
  iapply (part17_ok m K c _)
  isplitl [H HGt Ha5 Hgo]
  · isplitl [H]; · iexact H
    isplitl [HGt]; · iexact HGt
    isplitl [Ha5] <;> iassumption
  iintro %_ ⟨H, Hao, Hgo⟩
  iapply (runs_bind c)
  iapply (part18_ok m K c _ _)
  isplitl [H]
  · iexact H
  iintro %_ H
  iapply (runs_bind c)
  iapply (part19_ok m K c _)
  isplitl [H]
  · iexact H
  iintro %_ H
  iapply (runs_bind c)
  iapply (part20_ok m K c _ _ _)
  isplitl [H]
  · iexact H
  iintro %_ H
  iapply (runs_bind c)
  iapply (part21_ok m K c _ _)
  isplitl [H HW]
  · isplitl [H] <;> iassumption
  iintro %_ H
  iapply (runs_bind c)
  iapply (part22_ok m K c _ _)
  isplitl [H]
  · iexact H
  iintro %_ H
  iapply (runs_bind c)
  iapply (part23_ok m K c _ _)
  isplitl [H]
  · iexact H
  iintro %_ H
  iapply (runs_bind c)
  iapply (part24_ok m K c _ _)
  isplitl [H]
  · iexact H
  iintro %_ H
  iapply (runs_bind c)
  iapply (part25_ok m K c _ _ _)
  isplitl [H]
  · iexact H
  iintro %_ H
  iapply (runs_bind c)
  iapply (part26_ok m K c _ _)
  isplitl [H]
  · iexact H
  iintro %_ H
  iapply (runs_bind c)
  iapply (part27_ok m K c _ _)
  isplitl [H]
  · iexact H
  iintro %_ H
  iapply (runs_bind c)
  iapply (part28_ok m K c _ _ _)
  isplitl [H]
  · iexact H
  iintro %_ H
  iapply (runs_bind c)
  iapply (part29_ok m K c _ _ _)
  isplitl [H]
  · iexact H
  iintro %_ H
  iapply (runs_bind c)
  iapply (part30_ok m K c _ _ _)
  isplitl [H]
  · iexact H
  iintro %_ H
  iapply (runs_bind c)
  iapply (part31_ok m K c _ _ _)
  isplitl [H]
  · iexact H
  iintro %_ H
  iapply (runs_bind c)
  iapply (part32_ok m K c _ _ _)
  isplitl [H]
  · iexact H
  iintro %_ H
  simp only [Prog.lift, Prog.bind_op, Prog.bind_ret, Prog.pure_eq_ret]
  iapply (tail_g m K c 45 44 (by decide) (by decide) rfl) $$ H; iintro ⟨-, HO, H⟩
  icases (tail_end m c) $$ [H Hyo Hao Hro Hgo] with ⟨⟨Hy, Ha5, HR, HG⟩, Zs, Zo⟩
  · isplitl [H]; · iexact H
    isplitl [Hyo]; · iexact Hyo
    isplitl [Hao]; · iexact Hao
    isplitl [Hro] <;> iassumption
  ihave Hy := (Entails.of_eq (y_blocks c (yAll m c)).symm) $$ Hy
  ihave Ha5 := (Entails.of_eq (row_shares c (amv m c)).symm) $$ Ha5
  ihave HR := (Entails.of_eq (r_blocks c (rAll m c)).symm) $$ HR
  ihave HG := (Entails.of_eq (g_blocks c (gAll m)).symm) $$ HG
  iapply (whole_load c gM fullShare (Memref.readAt_unit_zero (Elt F) cc0_scratch6 hz _ (gAll m))) $$ HG; iintro HG
  iapply (whole_load c rM fullShare (Memref.readAt_unit_zero (Elt F) cc0_scratch4 hz _ (rAll m c))) $$ HR; iintro HR
  iapply (runs_ret c)
  icases Hout with ⟨%fo, Hout⟩
  iapply (whole_load c outM fullShare (Memref.readAt_unit_zero (Elt F) cc0_stg0_0 hz _ fo)) $$ Hout; iintro Hout
  iapply (whole_store c outM (fun f => Memref.write_access_unit_zero_univ (Elt F) cc0_stg0_0 hz _ f (outAt m c))) $$ [Hout]
  · iexists fo; iexact Hout
  iintro Hout
  icases W0 with ⟨Hw0, A0, -⟩
  icases W1 with ⟨Hw1, A1, -⟩
  ihave Hw := (w_back c _ _) $$ [Hw0 Hw1]
  · isplitl [Hw0] <;> iassumption
  imod (close_cell m K c (wIx 0) 2 (dut_later c (wIx 0))) $$ [A0] with Z0
  · isplitr; · iexact Hr
    iexact A0
  imod (close_cell m K c (wIx 1) 2 (dut_later c (wIx 1))) $$ [A1] with Z1
  · isplitr; · iexact Hr
    iexact A1
  imod (close_cell m K c (dsIx 12) 0 (fun r _ => (unused_duty c r).1)) $$ [U1] with U1
  · isplitr; · iexact Hr
    iexact U1
  imod (close_cell m K c (drIx 12) 0 (fun r _ => (unused_duty c r).2.1)) $$ [U2] with U2
  · isplitr; · iexact Hr
    iexact U2
  imod (close_cell m K c (asIx 0) 0 (fun r _ => (unused_duty c r).2.2.1)) $$ [U3] with U3
  · isplitr; · iexact Hr
    iexact U3
  imod (close_cell m K c (arIx 0) 0 (fun r _ => (unused_duty c r).2.2.2)) $$ [U4] with U4
  · isplitr; · iexact Hr
    iexact U4
  iapply (runs_ret c)
  iapply Hk
  isplitl [Hout]; · iexact Hout
  isplitl [HO]; · iexact HO
  isplitl [Hx Hxb Hw Hy HR Ha5 HG]
  · isplitl [Hx]; · iexists _; iexact Hx
    isplitl [Hxb]; · iexists _; iexact Hxb
    isplitl [Hw]; · iexact Hw
    isplitl [Hy]; · iexists _; iexact Hy
    isplitl [HR]; · iexists _; iexact HR
    isplitl [Ha5]; · iexists _; iexact Ha5
    iexists _; iexact HG
  isplitl [Zb Zx Z0 Z1]
  · isplitl [Zb]; · iexact Zb
    isplitl [Zx]; · iexact Zx
    isplitl [Z0] <;> iassumption
  isplitl [U1 U2 U3 U4]
  · isplitl [U1]; · iexact U1
    isplitl [U2]; · iexact U2
    isplitl [U3] <;> iassumption
  isplitl [Zs] <;> iassumption

end Text

end Cert.KernelIdeal.Run

end
-- ==== Proof.IdealLaunch.lean ====
/-
# The launch

What the launch hands each device, how the shared records are made, and the run of the whole program: every device ends
with its result, its arguments unchanged and every semaphore at zero.
-/
module

public import proofs.«01_k».proof.Proof.IdealBody
public import Idealize.ShloMosaic.Lib.Pipeline.CollectiveSegs

@[expose] public section

set_option maxRecDepth 16384

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ShareLeaves (leaf pointsTo_leaves)

variable {F : FTy → Type} [FloatOps F]

local notation "𝕄" => MT nD τ sig Unit (Elt F) ℕ UU ℕ

variable (m : (ℓ : Loc nD τ sig) → Buf (Elt F) ℓ)

open Idealize.ShloMosaic.Pipeline (Dat Cfg Window BodyObligation cellOf)

variable (ρ : Dev nD → PrngReg)

abbrev s₀ : MemSt nD τ sig (Elt F) := ⟨m, fun _ => 0, ρ⟩

/-! ## The kernel's own semaphores -/

abbrev OIx : Type := Fin 3 ⊕ (Fin 4 × Fin 16)
abbrev ownIx : OIx → CIx := Sum.map Fin.succ id
abbrev osem : OIx → SemLoc sig := fun k => semOf (ownIx k)

theorem ownSemFacts : Pipeline.OwnSemFacts cfg0.spec osem :=
  ⟨by decide +kernel, fun a b h => Sum.map_injective.mpr ⟨Fin.succ_injective _, Function.injective_id⟩ (semOf_injective h), by decide +kernel⟩

theorem both {P Q : sProp 𝕄} (h : P ⊢ Q) (h' : Q ⊢ P) : P = Q := BI.Entails.antisymm h h'

theorem sum_split {A B : Type} [Fintype A] [Fintype B] [DecidableEq A] [DecidableEq B] (Φ : A ⊕ B → sProp 𝕄) :
    bigSep Finset.univ Φ = iprop((bigSep Finset.univ fun a => Φ (.inl a)) ∗ bigSep Finset.univ fun b => Φ (.inr b)) := bigSep_univ_sum _

theorem own_cells (Φ : CIx → sProp 𝕄) : bigSep Finset.univ Φ = iprop(Φ barIx ∗ bigSep Finset.univ fun k : OIx => Φ (ownIx k)) := by
  have h4 : bigSep Finset.univ (fun i : Fin 4 => Φ (.inl i)) = iprop(Φ (.inl 0) ∗ Φ (.inl 1) ∗ Φ (.inl 2) ∗ Φ (.inl 3)) :=
    bigSep_univ_eq_bigSepL [0, 1, 2, 3] (by decide) (by decide) _
  have h3 : bigSep Finset.univ (fun i : Fin 3 => Φ (ownIx (.inl i))) = iprop(Φ (.inl 1) ∗ Φ (.inl 2) ∗ Φ (.inl 3)) :=
    bigSep_univ_eq_bigSepL [0, 1, 2] (by decide) (by decide) _
  rw [sum_split, sum_split, h4, h3]
  apply both
  · iintro ⟨⟨H0, H1, H2, H3⟩, H⟩
    isplitl [H0]; · iexact H0
    isplitl [H1 H2 H3]
    · isplitl [H1]; · iexact H1
      isplitl [H2] <;> iassumption
    iexact H
  · iintro ⟨H0, ⟨H1, H2, H3⟩, H⟩
    isplitl [H0 H1 H2 H3]
    · isplitl [H0]; · iexact H0
      isplitl [H1]; · iexact H1
      isplitl [H2] <;> iassumption
    iexact H

/-- Every semaphore of the device: the barrier's and the kernel's own. -/
theorem sems_eq (c : Dev nD) : (bigSep Finset.univ fun ix : CIx => (semVal (cell (c, ix)) 0 : sProp 𝕄))
    = iprop(unscopedSems0 c ∗ Pipeline.ownSems0 (Ix := Unit) (Name := ℕ) (U := UU) (Lvl := ℕ) (Val := Elt F) (τ := τ) osem c) := by
  rw [own_cells]
  unfold unscopedSems0; rw [bigSep_eq_bigSepL_of_eq [SemLoc.reg barrier0] (by decide +kernel) (by decide)]; rfl

/-! ## The rights to pay -/

/-- The payments a device may make: the 45 to others, the 30 sends, the copies of `x` and of the four tiles. -/
abbrev TIx : Type := (Fin 45 ⊕ Fin 30) ⊕ Fin 5

/-- On which cell, in which round, under which name. -/
def tokKey (c : Dev nD) : TIx → (Dev nD × CIx) × ℕ × Fin 16
  | .inl (.inl i) => ((oweTo c i, oweIx i), 0, oweDuty c i)
  | .inl (.inr i) => ((c, sendIx (i + 15)), 0, 0)
  | .inr j => ((c, if j = 0 then xIx else wIx (if j = 1 ∨ j = 3 then 0 else 1)), if j.val < 3 then 0 else 1, 0)

/-- Whose right a right is, and which. -/
def tokOwner : (Dev nD × CIx) × ℕ × Fin 16 → Dev nD × TIx
  | ((d, .inl i), r, e) =>
      if i = 0 then (e, .inl (.inl (Fin.ofNat 45 ((d.val + 15 - e.val) % 16)))) else (d, .inr (if r = 0 then Fin.ofNat 5 (i.val - 1) else Fin.ofNat 5 (i.val + 1)))
  | ((d, .inr (f, k)), _, _) =>
      if f = 0 then (d, .inl (.inr (Fin.ofNat 30 (if k.val < 12 then k.val else k.val - 1))))
      else if f = 1 then (src d k, .inl (.inl (Fin.ofNat 45 (15 + if k.val < 12 then k.val else k.val - 1))))
      else if f = 2 then (d, .inl (.inr (Fin.ofNat 30 (k.val + 14))))
      else (nb d (16 - k.val), .inl (.inl (Fin.ofNat 45 (k.val + 29))))

theorem owner_key : ∀ (c : Dev nD) (j : TIx), tokOwner (tokKey c j) = (c, j) := by decide +kernel

abbrev tokOf (cj : Dev nD × TIx) : GSem nD τ sig × ℕ × Fin 16 := (cell (tokKey cj.1 cj.2).1, (tokKey cj.1 cj.2).2)

theorem tokOf_injective : Function.Injective tokOf := by
  intro a b h
  have h1 := cell_injective (congrArg Prod.fst h)
  have h2 : (tokKey a.1 a.2).2 = (tokKey b.1 b.2).2 := congrArg (fun x : GSem nD τ sig × ℕ × Fin 16 => x.2) h
  have := congrArg tokOwner (Prod.ext h1 h2)
  rwa [owner_key, owner_key] at this

def runCells : Finset (GSem nD τ sig) := Finset.univ.map ⟨cell, cell_injective⟩
def runToks : Finset (GSem nD τ sig × ℕ × Fin 16) := Finset.univ.map ⟨tokOf, tokOf_injective⟩

def u₀ : UU := (initOf (Pipeline.cells cfgs cellOf_inj) (Pipeline.launchToks cfgs cellOf_inj), initOf runCells runToks)

/-- Device `c`'s rights. -/
def toks (c : Dev nD) : sProp 𝕄 := bigSep Finset.univ fun j : TIx => dutyTok ER (tokOf (c, j)).1 (tokOf (c, j)).2.1 (tokOf (c, j)).2.2

def G (c : Dev nD) : sProp 𝕄 :=
  iprop((bigSep Finset.univ fun ix : CIx => roundState ER (Rd m) (cell (c, ix)) 0)
    ∗ (bigSep Finset.univ fun ix : CIx => iprop(atPos ER (cell (c, ix)) 0 ∅ 0 ∗ reached ER (cell (c, ix)) 0)) ∗ toks c)

/-- The records without the levels. -/
def recs (K : Dev nD × CIx → ℕ) : sProp 𝕄 :=
  iprop((bigSep Finset.univ fun ck : Dev nD × CIx => cellInv ER (Rd m) (K ck) (cell ck))
    ∗ bigSep Finset.univ fun ck : Dev nD × CIx => reached ER (cell ck) 0)

instance recs_persistent (K : Dev nD × CIx → ℕ) : BI.Persistent (recs m K) := by unfold recs; infer_instance

def G' (c : Dev nD) : sProp 𝕄 :=
  iprop(∃ K, recs m K ∗ (bigSep Finset.univ fun ix : CIx => atPos ER (cell (c, ix)) 0 ∅ 0) ∗ toks c)

theorem fund_run : BI.own (ER (initOf runCells runToks)) ⊢ (|==> bigSep Finset.univ (G m) : sProp 𝕄) := by
  have hX (Φ : GSem nD τ sig → sProp 𝕄) : bigSep runCells Φ = bigSep Finset.univ fun c : Dev nD => bigSep Finset.univ fun ix : CIx => Φ (cell (c, ix)) := by
    unfold runCells; rw [bigSep_map, bigSep_univ_prod]; rfl
  have hT : bigSep runToks (fun x => (dutyTok ER x.1 x.2.1 x.2.2 : sProp 𝕄)) = bigSep Finset.univ fun c : Dev nD => toks c := by
    unfold runToks; rw [bigSep_map, bigSep_univ_prod]; rfl
  iintro HX
  imod (Rounds.fund ER (Rd m) runCells runToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun ix : CIx => iprop(∃ κ : ℕ, cellInv ER (Rd m) κ (cell (c, ix))))
          ∗ (bigSep Finset.univ fun ix : CIx => iprop(atPos ER (cell (c, ix)) 0 ∅ 0 ∗ reached ER (cell (c, ix)) 0)) ∗ toks c) := by
  unfold G
  iintro ⟨Hos, Hus, Hst, Hat, Htok⟩
  ihave Hv := (Entails.of_eq (sems_eq (F := F) c).symm) $$ [Hos Hus]
  · isplitl [Hus] <;> iassumption
  imod (show iprop((bigSep Finset.univ fun ix : CIx => semVal (cell (c, ix)) 0) ∗ bigSep Finset.univ fun ix : CIx => roundState ER (Rd m) (cell (c, ix)) 0)
      ⊢ (|={Set.univ}=> bigSep Finset.univ fun ix : CIx => iprop(∃ κ : ℕ, cellInv ER (Rd m) κ (cell (c, ix))) : sProp 𝕄) from by
        rw [← bigSep_sep']
        exact (bigSep_mono fun ix _ => (Rounds.body_intro ER (Rd m) (cell (c, ix))).trans inv_alloc).trans (bigSep_fupd _ _)) $$ [Hv Hst] with Hinv
  · isplitl [Hv] <;> iassumption
  imodintro
  isplitl [Hinv]; · iexact Hinv
  isplitl [Hat]; · iexact Hat
  iexact Htok

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun ix : CIx => iprop(∃ κ : ℕ, cellInv ER (Rd m) κ (cell (c, ix))))
          ∗ (bigSep Finset.univ fun ix : CIx => iprop(atPos ER (cell (c, ix)) 0 ∅ 0 ∗ reached ER (cell (c, ix)) 0)) ∗ toks c) : sProp 𝕄)
      ⊢ bigSep Finset.univ (G' m) := by
  rw [bigSep_sep', bigSep_sep', ← bigSep_univ_prod (fun ck : Dev nD × CIx => iprop(∃ κ : ℕ, cellInv ER (Rd m) κ (cell ck))),
    bigSep_congr (s := Finset.univ) (fun (c : Dev nD) _ => bigSep_sep' Finset.univ (fun ix : CIx => (atPos ER (cell (c, ix)) 0 ∅ 0 : sProp 𝕄)) (fun ix => reached ER (cell (c, ix)) 0)),
    bigSep_sep', ← bigSep_univ_prod (fun ck : Dev nD × CIx => (reached ER (cell ck) 0 : sProp 𝕄))]
  iintro ⟨HI, ⟨Hat, #HR⟩, Htok⟩
  ihave HK := (BI.bigSep_exists_pi Finset.univ (fun (ck : Dev nD × CIx) (κ : ℕ) => (cellInv ER (Rd m) κ (cell ck) : sProp 𝕄))) $$ HI
  icases HK with ⟨%K, #HI⟩
  iapply (with_persistent (R := recs m K) (Φ := fun c : Dev nD => iprop((bigSep Finset.univ fun ix : CIx => atPos ER (cell (c, ix)) 0 ∅ 0) ∗ toks c))
    fun c _ => show iprop(recs m K ∗ (bigSep Finset.univ fun ix : CIx => atPos ER (cell (c, ix)) 0 ∅ 0) ∗ toks c) ⊢ G' m c by
      unfold G'; iintro H; iexists K; iexact H)
  isplitr
  · unfold recs; isplitl; · iexact HI
    iexact HR
  · rw [bigSep_sep']
    isplitl [Hat] <;> iassumption

/-- The records are made, for all devices at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

theorem image_fin (n d : ℕ) [NeZero n] : (Finset.Ico d (d + n)).image (fun i => Fin.ofNat n (i - d)) = (Finset.univ : Finset (Fin n)) := by
  refine Finset.eq_univ_of_forall fun i => Finset.mem_image.mpr ⟨d + i.val, Finset.mem_Ico.mpr ⟨by omega, by have := i.isLt; omega⟩, ?_⟩
  rw [Nat.add_sub_cancel_left]; exact Fin.ext (Nat.mod_eq_of_lt i.isLt)
/-- A run of `n` numbers from `d` on. -/
theorem run_fin (n d : ℕ) [NeZero n] (A : ℕ → sProp 𝕄) : bigSep Finset.univ (fun i : Fin n => A (i + d)) = bigSep (Finset.Ico d (d + n)) A := by
  rw [← run_image (fun i => Fin.ofNat n (i - d)) (image_fin n d) (by rw [Finset.card_univ, Fintype.card_fin]; omega) (fun i : Fin n => A (i + d))]
  refine bigSep_congr fun i hi => congrArg A ?_
  have := Finset.mem_Ico.mp hi
  show (i - d) % n + d = i
  rw [Nat.mod_eq_of_lt (by omega)]; omega

theorem bigSep_nothing {I : Type} [DecidableEq I] (s : Finset I) : (bigSep s fun _ => iprop(emp) : sProp 𝕄) = iprop(emp) := by
  induction s using Finset.induction_on with
  | empty => exact bigSep_empty
  | insert a s ha ih =>
    rw [bigSep_insert ha, ih]
    exact both (show iprop(emp ∗ emp) ⊢ iprop(emp) by iintro ⟨-, H⟩; iexact H) (show iprop(emp) ⊢ iprop(emp ∗ emp) by iintro -; isplitr <;> iempintro)

/-- The rights as the text takes them. -/
theorem toks_eq (c : Dev nD) : (toks c : sProp 𝕄)
    ⊢ iprop(bigSep (Finset.Ico 0 45) (payTok (F := F) c) ∗ dutyTok ER (cell (c, xIx)) 0 0 ∗ dutyTok ER (cell (c, wIx 0)) 0 0 ∗ dutyTok ER (cell (c, wIx 1)) 0 0
      ∗ dutyTok ER (cell (c, wIx 0)) 1 0 ∗ dutyTok ER (cell (c, wIx 1)) 1 0) := by
  have h5 (Φ : Fin 5 → sProp 𝕄) : bigSep Finset.univ Φ = iprop(Φ 0 ∗ Φ 1 ∗ Φ 2 ∗ Φ 3 ∗ Φ 4) := bigSep_univ_eq_bigSepL [0, 1, 2, 3, 4] (by decide) (by decide) Φ
  have hemp : bigSep (Finset.Ico 0 15) (fun i => (if i < 15 then iprop(emp) else dutyTok ER (cell (c, sendIx i)) 0 0 : sProp 𝕄)) = iprop(emp) :=
    (bigSep_congr fun i hi => if_pos (Finset.mem_Ico.mp hi).2).trans (bigSep_nothing _)
  have hsend : bigSep (Finset.Ico 15 45) (fun i => (if i < 15 then iprop(emp) else dutyTok ER (cell (c, sendIx i)) 0 0 : sProp 𝕄))
      = bigSep (Finset.Ico 15 45) fun i => dutyTok ER (cell (c, sendIx i)) 0 0 :=
    bigSep_congr fun i hi => if_neg (Nat.not_lt.mpr (Finset.mem_Ico.mp hi).1)
  unfold toks payTok
  rw [sum_split, sum_split, h5, bigSep_sep', run_split (show 0 ≤ 15 by decide) (show 15 ≤ 45 by decide) (fun i => iprop(if i < 15 then iprop(emp) else dutyTok ER (cell (c, sendIx i)) 0 0)),
    hemp, hsend]
  iintro ⟨⟨Ho, Hs⟩, H⟩
  isplitl [Ho Hs]
  · isplitl [Ho]
    · iapply (Entails.of_eq (run_fin 45 0 (fun i => dutyTok ER (oweCell c i) 0 (oweDuty c i)))); iexact Ho
    · isplitr; · iempintro
      iapply (Entails.of_eq (run_fin 30 15 (fun i => dutyTok ER (cell (c, sendIx i)) 0 0))); iexact Hs
  · iexact H

/-! ## What the others will pay -/

def owedTo (c : Dev nD) : CellTallies nD τ sig Unit := ∑ i ∈ Finset.Ico 0 45, tallyAt (cell (c, oweIx i)) () (oweAmt i)

theorem oweTo_bijective : ∀ i : Fin 45, Function.Bijective fun c : Dev nD => oweTo c i := fun i =>
  (Finite.injective_iff_bijective).mp fun a b h => by
    have : ∀ (i : Fin 45) (a b : Dev nD), oweTo a i = oweTo b i → a = b := by decide +kernel
    exact this i a b h

theorem owed_sum : (∑ d, owe d 0) = ∑ d, owedTo d := by
  unfold owe owedTo
  rw [Finset.sum_comm, Finset.sum_comm (s := Finset.univ)]
  refine Finset.sum_congr rfl fun i hi => ?_
  exact (oweTo_bijective ⟨i, (Finset.mem_Ico.mp hi).2⟩).sum_comp (fun d => tallyAt (cell (d, oweIx i)) () (oweAmt i))

theorem owedTo_at (d : Dev nD) (g : GSem nD τ sig) (h : owedTo d g ≠ 0) : g.1 = d.tc := by
  unfold owedTo at h
  rw [Finset.sum_apply] at h
  obtain ⟨i, hi, hp⟩ := Finset.exists_ne_zero_of_sum_ne_zero h
  by_contra hg
  have hne : g ≠ cell (d, oweIx i) := fun e => hg (by rw [e])
  exact hp (by rw [tallyAt_ne_cell hne])

theorem tally_sum (g : GSem nD τ sig) (n : ℕ) : (∑ i ∈ Finset.Ico 0 n, tallyAt g () 1) = (tallyAt g () n : CellTallies nD τ sig Unit) := by
  rw [← Finset.range_eq_Ico]
  induction n with
  | zero => rw [Finset.sum_range_zero, tallyAt_zero]
  | succ n ih => rw [Finset.sum_range_succ, ih, tallyAt_add]

theorem creds (c : Dev nD) : (Pipeline.launchCred (fun d => owe d 0) c : sProp 𝕄)
    ⊢ iprop(cred (tallyAt (cell (c, barIx)) () 15) ∗ bigSep (Finset.Ico 15 45) fun i => cred (tallyAt (cell (c, oweIx i)) () (amt (oweIx i)))) := by
  rw [Pipeline.launchCred_of_sum (fun d => owe d 0) owedTo owed_sum owedTo_at c, ← tally_sum, Pipeline.cred_finsetSum]
  unfold owedTo
  rw [Pipeline.cred_finsetSum, run_split (show 0 ≤ 15 by decide) (show 15 ≤ 45 by decide)]
  refine sep_mono_left (Entails.of_eq (bigSep_congr fun i hi => ?_))
  have : oweIx i = barIx := if_pos (Finset.mem_Ico.mp hi).2
  rw [oweAmt, this]; rfl

/-! ## The arguments' shares -/

/-- The halves of the arguments that stay with the launch. -/
def Held (c : Dev nD) : sProp 𝕄 :=
  iprop((((c : Thread nD τ).loc main_arg0) ↦{fullShare.left} m ((c : Thread nD τ).loc main_arg0))
    ∗ (((c : Thread nD τ).loc main_arg1) ↦{fullShare.left} m ((c : Thread nD τ).loc main_arg1)))

theorem halve {ℓ : Loc nD τ sig} (q : PosShare TreeShare) (f : Buf (Elt F) ℓ) : (ℓ ↦{q} f : sProp 𝕄) ⊢ iprop((ℓ ↦{q.left} f) ∗ ℓ ↦{q.right} f) :=
  (pointsTo_share (PosShare.mem_left_op_right q)).1

/-- What a device takes from the launch: all of `Start` but its buffers and what it owes. -/
def Begin (c : Dev nD) : sProp 𝕄 :=
  iprop(∃ K, records m K ∗ (bigSep Finset.univ fun ix : CIx => atPos ER (cell (c, ix)) 0 ∅ 0) ∗ toks c
    ∗ (cred (tallyAt (cell (c, barIx)) () 15) ∗ bigSep (Finset.Ico 15 45) fun i => cred (tallyAt (cell (c, oweIx i)) () (amt (oweIx i))))
    ∗ (((c : Thread nD τ).loc main_arg0) ↦{fullShare.right} m ((c : Thread nD τ).loc main_arg0))
    ∗ (((c : Thread nD τ).loc main_arg1) ↦{fullShare.right} m ((c : Thread nD τ).loc main_arg1)))

/-- The scratch buffers, each at some contents. -/
def Scratch (c : Dev nD) : sProp 𝕄 :=
  iprop(Some (F := F) c cc0_scratch0 ∗ Some (F := F) c cc0_scratch1 ∗ Some (F := F) c cc0_scratch2 ∗ Some (F := F) c cc0_scratch3
      ∗ Some (F := F) c cc0_scratch4 ∗ Some (F := F) c cc0_scratch5 ∗ Some (F := F) c cc0_scratch6)

def Φ₀ (c : Dev nD) : sProp 𝕄 := iprop(Begin m c ∗ Scratch (F := F) c)
def Φ₁ (c : Dev nD) : sProp 𝕄 := iprop((bigSep Finset.univ fun ix : CIx => semVal (cell (c, ix)) 0) ∗ Scratch (F := F) c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => outAt m c
  Φ t := match t with
    | ⟨0, _⟩ => Φ₀ m c
    | ⟨_ + 1, _⟩ => Φ₁ (F := F) c
  q _ := fullShare
  owed t := match t with
    | ⟨0, _⟩ => owe c 0
    | ⟨_ + 1, _⟩ => owe c 45

theorem share_eq (c : Dev nD) (w : Fin cfg0.W) : (dats m ρ 0 c).share w = fullShare := by unfold Dat.share; split <;> rfl

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m ρ 0 c).owesAt () t0_0.castSucc ∗ (∃ d, stg c cc0_stg0_0 ((dats m ρ 0 c).before (0 : Fin 1) t0_0 d)))
def bodyPost (c : Dev nD) : sProp 𝕄 :=
  iprop(Φ₁ (F := F) c ∗ (dats m ρ 0 c).owesAt () t0_0.succ ∗ stg c cc0_stg0_0 (outAt m c))

theorem body_run (c : Dev nD) : bodyPre m ρ c ⊢ Runs c (on (cc0_body (F := F))) (fun _ => bodyPost m ρ c) := by
  unfold bodyPre Φ₀ Begin Scratch Dat.owesAt Pipeline.owesWithin
  iintro ⟨⟨⟨%K, Hr, Hat, Ht, Hc, Ha, Hb⟩, Hscr⟩, ⟨%W, %hW, HO⟩, ⟨%d, %f, -, Hout⟩⟩
  ihave Hb := (halve _ _) $$ Hb
  icases Hb with ⟨Hb, Hb'⟩
  ihave Hb := (halve _ _) $$ Hb
  icases Hb with ⟨Hb1, Hb2⟩
  ihave Hb' := (halve _ _) $$ Hb'
  icases Hb' with ⟨Hb3, Hb4⟩
  ihave Ht := (toks_eq c) $$ Ht
  icases Ht with ⟨Hp, Ht⟩
  iapply (text_ok m K c _ _ _ _ _)
  isplitl [Hr Hat Hc Ha Hscr HO Hout Hb1 Hb2 Hb3 Hb4 Hp Ht]
  · unfold Start
    isplitl [Hr HO Hp]
    · isplitl [Hr]; · iexact Hr
      isplitl [HO]; · unfold ow; iexists W; iexact HO
      iexact Hp
    isplitl [Ha Hb1 Hb2 Hb3 Hb4]
    · isplitl [Ha]; · iexact Ha
      isplitl [Hb1]; · iexact Hb1
      isplitl [Hb2]; · iexact Hb2
      isplitl [Hb3] <;> iassumption
    isplitl [Hscr]; · iexact Hscr
    isplitl [Hout]; · iexists f; iexact Hout
    isplitl [Ht]; · iexact Ht
    isplitl [Hat]; · iexact Hat
    iexact Hc
  · unfold Finish bodyPost Φ₁ Scratch
    iintro ⟨Hout, HO, Hscr, Hz⟩
    isplitl [Hscr Hz]
    · isplitl [Hz] <;> iassumption
    isplitl [HO]
    · unfold ow Dat.owesAt Pipeline.owesWithin
      icases HO with ⟨%W', HO⟩
      iexists W'
      isplitr; · ipureintro; exact fun _ _ => Or.inl trivial
      iexact HO
    · iexists (outAt m c)
      isplitr; · ipureintro; rfl
      iexact Hout

theorem body_obligation (c : Dev nD) : BodyObligation (dats (F := F) m ρ 0 c) (defs₀ (F := F)) 𝒱₀ () Set.univ := fun t => by
  rw [fin_N0 t]
  rw [show (bigSep Finset.univ : (Fin cfg0.W → sProp 𝕄) → sProp 𝕄) = fun Φ => iprop(Φ (0 : Fin 1)) from funext fun Φ => bigSep_W0 Φ]
  simp only [owns_whole_eq]
  exact body_run m ρ c

/-! ## The conditions of the launch theorem -/

theorem start_intro (c : Dev nD) :
    iprop(Pipeline.unscopedRestP Pipeline.Prefetch.none cfg0.spec c (fun b => m ((c : Thread nD τ).loc b)) ∗ levAts L lv
        ∗ Pipeline.launchCred (fun d => owe d 0) c ∗ prngReg c (ρ c) ∗ G' m c)
      ⊢ |={Set.univ}=> iprop(Begin m c ∗ Held m c) := by
  rw [Pipeline.unscopedRestP_none, unscopedRest0_eq]
  iintro ⟨⟨Ha, Hb⟩, Hlev, Hcr, -, HG⟩
  ihave Hc := (creds (F := F) c) $$ Hcr
  ihave Ha := (halve _ _) $$ Ha
  icases Ha with ⟨Ha1, Ha2⟩
  ihave Hb := (halve _ _) $$ Hb
  icases Hb with ⟨Hb1, Hb2⟩
  unfold G' recs
  icases HG with ⟨%K, ⟨Hi, Hr⟩, Hat, Ht⟩
  imodintro
  unfold Begin Held
  isplitr [Ha1 Hb1]
  · iexists K
    isplitl [Hi Hr Hlev]
    · unfold records
      isplitl [Hi]; · iexact Hi
      isplitl [Hr] <;> iassumption
    isplitl [Hat]; · iexact Hat
    isplitl [Ht]; · iexact Ht
    isplitl [Hc]; · iexact Hc
    isplitl [Ha2] <;> iassumption
  · isplitl [Ha1] <;> iassumption

theorem phi0_intro (c : Dev nD) :
    iprop(Begin m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ Scratch
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ (F := F) c from rfl, scopedRest0_eq]
  unfold Φ₁ Scratch
  rw [sems_eq]
  iintro ⟨⟨Hz, Ho⟩, Hr⟩
  isplitl [Hz]; · iexact Hz
  isplitl [Ho] <;> iassumption

theorem waits (c : Dev nD) : (levAts L lv : sProp 𝕄) ⊢ Pipeline.cellsWaits cfgs (dats m ρ) () 0 c :=
  Pipeline.cellsWaits_intro cfgs (dats m ρ) () 0 c fun w s t => by
    have h : lvl (.dma ((cfg0.win w).sem s)) = 0 := by revert w s; decide
    rcases t with ⟨_ | _, ht⟩
    · exact mayWait_low c _ 0 h
    · exact mayWait_low c _ 45 h

/-- What the launch keeps is read at the end. -/
theorem held_read (c : Dev nD) (s' : Phys nD τ sig (Elt F)) :
    iprop(unscopedSems0 c ∗ Held m c ∗ SI s') ⊢ |={Set.univ}=> iprop(⌜(∀ sm : SemLoc sig, sm.isScoped .tc = false → s'.mem.sem ((c.tc : Thread nD τ), sm) = 0)
        ∧ s'.mem.mem ((c : Thread nD τ).loc main_arg0) = m ((c : Thread nD τ).loc main_arg0)
        ∧ s'.mem.mem ((c : Thread nD τ).loc main_arg1) = m ((c : Thread nD τ).loc main_arg1)⌝ ∗ (SI s' : sProp 𝕄)) := by
  unfold Held
  iintro ⟨Hu, ⟨Ha, Hb⟩, HSI⟩
  icombine HSI Ha gives %ha
  icombine HSI Hb gives %hb
  imod (Pipeline.unscopedSems0_read (X := unscopedSems0 c) (c := c) fupd_intro s') $$ [Hu HSI] with ⟨%hu, HSI⟩
  · isplitl [Hu] <;> iassumption
  imodintro
  isplitr
  · ipureintro; exact ⟨hu, Buf.eq_of_forall_mem_univ ha, Buf.eq_of_forall_mem_univ hb⟩
  · iexact HSI

/-! ## The result array -/

theorem flushed_eq (c : Dev nD) (t : Fin cfg0.N) :
    (dats m ρ 0 c).flushed 0 t = ((cfg0.win 0).blk t).view.read (Elt F) (outAt m c) := by
  obtain rfl := fin_N0 t
  have ha : (dats m ρ 0 c).after 0 t0_0 = outAt m c := by dsimp only [dats]
  unfold Pipeline.Dat.flushed
  rw [ha]
  funext j
  exact congrArg (outAt m c) (idx2_ext (d := ![4096, 128]) (by show (j 0).val = 0 * 4096 + 1 * (j 0).val; omega) (by show (j 1).val = 0 * 128 + 1 * (j 1).val; omega))

theorem cover (i : S4096x128.Idx) : ∃ t : Fin cfg0.N, (cfg0.win 0).flush t = true ∧ i ∈ ((cfg0.win 0).blk t).view.set := by
  refine ⟨t0_0, flush0_0 _, ?_⟩
  show i ∈ ((View.whole main_v1).slice (win0_0.rect t0_0)).set
  rw [View.set_slice_whole, Rect.mem_set_unit]
  have h0 : (i 0 : Nat) < 4096 := (i 0).isLt
  have h1 : (i 1 : Nat) < 128 := (i 1).isLt
  have e : win0_0.index t0_0 0 * win0_0.size 0 = 0 ∧ win0_0.xsize (grid0.coords t0_0) 0 = 4096
      ∧ win0_0.index t0_0 1 * win0_0.size 1 = 0 ∧ win0_0.xsize (grid0.coords t0_0) 1 = 128 := by decide +kernel
  intro a
  match a with
  | ⟨0, _⟩ => show win0_0.index t0_0 0 * win0_0.size 0 ≤ (i 0 : Nat) ∧ (i 0 : Nat) < win0_0.index t0_0 0 * win0_0.size 0 + win0_0.xsize (grid0.coords t0_0) 0
              rw [e.1, e.2.1]; omega
  | ⟨1, _⟩ => show win0_0.index t0_0 1 * win0_0.size 1 ≤ (i 1 : Nat) ∧ (i 1 : Nat) < win0_0.index t0_0 1 * win0_0.size 1 + win0_0.xsize (grid0.coords t0_0) 1
              rw [e.2.2.1, e.2.2.2]; omega

theorem result_eq (c : Dev nD) : (dats m ρ 0 c).arrAt 0 cfg0.N = outAt m c :=
  (dats m ρ 0 c).arrAt_eq_of_cover 0 (outAt m c) (fun t _ => flushed_eq m ρ c t) cover

/-! ## The run -/

/-- The final states: every device's result, its arguments unchanged, every semaphore zero. -/
def Ends (r : PUnit × MemSt nD τ sig (Elt F)) : Prop :=
  (∀ c : Dev nD, r.2.mem ((c : Thread nD τ).loc main_v1) = outAt m c
      ∧ r.2.mem ((c : Thread nD τ).loc main_arg0) = m ((c : Thread nD τ).loc main_arg0)
      ∧ r.2.mem ((c : Thread nD τ).loc main_arg1) = m ((c : Thread nD τ).loc main_arg1))
    ∧ r.2.sem = fun _ => 0

/-- From any memory with every semaphore zero, every weakly fair execution ends, and ends so. -/
theorem run_main : θ_run (defs (F := F)) (onTc (τ := τ) (main (F := F))) (s₀ m ρ) (Ends m) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => (body_obligation m ρ c)) (hne := fun w => by fin_cases w <;> exact Nat.succ_pos _) (harr := arr_whole0) (hstage := stage_whole0) (hshare := share_eq m ρ)
    (hdistinct := winFacts0.arr_inj)
    (O₀ := fun d => owe d 0) (howed₀ := fun _ => rfl) (howedN := fun c => owe_last c)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_run m) $$ HX with HG
      imodintro
      isplitl [HP] <;> iassumption)
    (hglob := glob m)
    (hA := fun _ _ => rfl) (hpf := fun _ k => k.elim0)
    (X := Begin m) (Y := fun c => unscopedSems0 c) (Z := Held m)
    (hX := start_intro m ρ) (hin := phi0_intro m ρ) (hout := phi1_exit m ρ)
    (QY := fun c s => (∀ sm : SemLoc sig, sm.isScoped .tc = false → s.sem ((c.tc : Thread nD τ), sm) = 0)
        ∧ s.mem ((c : Thread nD τ).loc main_arg0) = m ((c : Thread nD τ).loc main_arg0)
        ∧ s.mem ((c : Thread nD τ).loc main_arg1) = m ((c : Thread nD τ).loc main_arg1))
    (hY := held_read m)
    (hQ := fun s h hs => ⟨fun c => ⟨((h c).1 0).trans (result_eq m ρ c), (h c).2.2.2⟩, sem_eq_zero hs fun c => (h c).2.2.1⟩)

end Cert.KernelIdeal.Run

end
-- ==== Proof.IdealValue.lean ====
/-
# What the kernel computes, over the extended reals

Over the extended reals a change of format is the identity and every maximum is a least upper bound, in whatever order
it is taken. So a slot of device `s` is a block of the product of its rows with the weight (`slotVal_tile`), the rows
received by device `t` are its 128 columns of the whole product (`rAll_val`), the number that every device computes from
what it gathers is the largest absolute value of the whole product (`maxAll_le`, against `refMax_le` of the reference),
and the device's result is its block of columns of the reference's (`outAt_eq_block`).
-/
module

public import proofs.«01_k».proof.Proof.IdealViews
public import proofs.«01_k».proof.Proof.Gen.ReferenceIdeal
public import Idealize.ShloMosaic.Lib.Layout
public import Idealize.ShloMosaic.Lib.IdealHost
public import Idealize.ShloMosaic.Lib.KernelVsHost
public import Idealize.ShloMosaic.Lib.MatmulPlain
public import Idealize.ShloMosaic.Lib.ValueLayout

@[expose] public section

noncomputable section

namespace Cert.KernelIdeal.Run

open Cert.KernelIdeal Cert.KernelIdeal.Gen
open Idealize.ShloMosaic Idealize.ShloMosaic.TcCoe Idealize.ShloMosaic.ValueIdx Idealize.SL.Sem
open scoped BigOperators

/-! ## Maxima from minus infinity -/

/-- The word from which the maxima start is minus infinity. -/
theorem ofBits_negInf : Ideal.ofBits .f32 0xFF800000#32 = ⊥ := by simp [Ideal.ofBits, Ideal.ieee]

/-- What bounds a running maximum bounds its start and every term, and conversely. -/
theorem foldl_max_le {ι : Type} (f : ι → EReal) (b : EReal) :
    ∀ (l : List ι) (z : EReal), l.foldl (fun r n => max r (f n)) z ≤ b ↔ z ≤ b ∧ ∀ n ∈ l, f n ≤ b
  | [], z => by simp
  | a :: l, z => by
    rw [List.foldl_cons, foldl_max_le f b l, max_le_iff, List.forall_mem_cons, and_assoc]

/-- The same of a maximum over all the elements of an array, whatever their order. -/
theorem foldl_all_le {s : Shape} (x : s.Idx → EReal) (b : EReal) (p : Fin s.numel → Bool) (hp : ∀ n, p n = true) :
    ((List.finRange s.numel).filter p).foldl (fun r n => max r (x (s.rowMajor.symm n))) ⊥ ≤ b ↔ ∀ i, x i ≤ b := by
  rw [foldl_max_le]
  refine ⟨fun h i => ?_, fun h => ⟨bot_le, fun n _ => h _⟩⟩
  have := h.2 (s.rowMajor i) (List.mem_filter.2 ⟨List.mem_finRange _, hp _⟩)
  rwa [Equiv.symm_apply_apply] at this

/-- A maximum over both axes of a matrix, as the kernel takes it: what bounds it bounds every element. -/
theorem matMax_le {n0 n1 : ℕ} (x : FVec Ideal ⟨2, ![n0, n1]⟩ .f32) (b : EReal)
    (hc : (⟨2, ![n0, n1]⟩ : Shape).ShapeCasts ⟨3, ![1, n0, n1]⟩) (hr : (⟨3, ![1, n0, n1]⟩ : Shape).Reduces [1, 2] S1)
    (hφ : FKind.Formats .f32) (ha : (0xFF800000#32 : BitVec 32) = FKind.maximumf.neutral .f32 hφ)
    (hs : S1.ShapeCasts S1x1x1) (hp : ∀ a, (![0, 0, 0] : Fin 3 → ℕ) a < S1x1x1.size a) :
    extractAt ![0, 0, 0] (shapeCast S1x1x1 (multiReduction .maximumf [1, 2] S1 (shapeCast ⟨3, ![1, n0, n1]⟩ x hc) 0xFF800000#32 hr hφ ha) hs) hp ≤ b
      ↔ ∀ i j, x (ix2 i j) ≤ b := by
  have : Subsingleton S1.Idx := ⟨fun i j => funext fun a => Fin.ext (by
    have hi : (i a).val < 1 := by fin_cases a; exact (i 0).isLt
    have hj : (j a).val < 1 := by fin_cases a; exact (j 0).isLt
    omega)⟩
  have key : (∀ i, shapeCast ⟨3, ![1, n0, n1]⟩ x hc i ≤ b) ↔ ∀ i j, x (ix2 i j) ≤ b := by
    refine ⟨fun h i j => (shapeCast_ab_1ab_apply x hc 0 i j).symm.trans_le (h (ix3 0 i j)), fun h i => ?_⟩
    have e : i = ix3 (n0 := 1) (n1 := n0) (n2 := n1) (i 0) (i 1) (i 2) := eq_ix3 i
    rw [e]
    exact (shapeCast_ab_1ab_apply x hc (i 0) (i 1) (i 2)).trans_le (h _ _)
  have multi : ∀ j, multiReduction .maximumf [1, 2] S1 (shapeCast ⟨3, ![1, n0, n1]⟩ x hc) 0xFF800000#32 hr hφ ha j ≤ b
      ↔ ∀ i, shapeCast ⟨3, ![1, n0, n1]⟩ x hc i ≤ b := fun j => by
    refine Iff.trans ?_ (foldl_all_le (shapeCast ⟨3, ![1, n0, n1]⟩ x hc) b
      (fun n => decide (hr.drop ((⟨3, ![1, n0, n1]⟩ : Shape).rowMajor.symm n) = j)) fun n => decide_eq_true (Subsingleton.elim _ _))
    rw [← ofBits_negInf]
    exact Iff.rfl
  exact (multi _).trans key

/-- The same as the reference's host takes it. -/
theorem hostMax_le {n0 n1 : ℕ} (x : FVec Ideal ⟨2, ![n0, n1]⟩ .f32) (b : EReal)
    (hr : (⟨2, ![n0, n1]⟩ : Shape).ReducesTo [0, 1] S_) (hu : 0 < S_.numel) (i : S_.Idx) :
    Host.reduce FloatOps.maximumf x (constant S_ .f32 0xFF800000#32) hr hu i ≤ b ↔ ∀ i j, x (ix2 i j) ≤ b := by
  have : Subsingleton S_.Idx := ⟨fun i j => funext fun a => a.elim0⟩
  have key : (∀ i, x i ≤ b) ↔ ∀ i j, x (ix2 i j) ≤ b := ⟨fun h i j => h _, fun h i => by rw [eq_ix2 i]; exact h _ _⟩
  refine Iff.trans ?_ key
  refine Iff.trans ?_ (foldl_all_le x b
    (fun n => decide (hr.drop ((⟨2, ![n0, n1]⟩ : Shape).rowMajor.symm n) = i)) fun n => decide_eq_true (Subsingleton.elim _ _))
  rw [← ofBits_negInf]
  exact Iff.rfl

/-! ## The products -/

variable (m : (ℓ : Loc nD τ sig) → Buf (Elt Ideal) ℓ)

/-- Device `s`'s rows. -/
def argA (s : Dev nD) : S256x4096.Idx → EReal := m ((s : Thread nD τ).loc main_arg0)

/-- Device `s`'s copy of the weight. -/
def argW (s : Dev nD) : S4096x2048.Idx → EReal := m ((s : Thread nD τ).loc main_arg1)

/-- Their product. -/
def prodAt (s : Dev nD) (a : Fin 256) (n : Fin 2048) : EReal := ∑ k : Fin 4096, argA m s (ix2 a k) * argW m s (ix2 k n)

/-- Tile `j` of it. -/
def tile (s : Dev nD) (j : ℕ) : FVec Ideal S256x512 .f32 := k0_pay3 (xb m s) (wv m s j)

/-- The tile's columns start at 512 times its place, which turns with the device's group. -/
theorem tile_apply (s : Dev nD) (j : ℕ) (a : Fin 256) (b : Fin 512) :
    tile m s j (ix2 a b) = prodAt m s a ⟨512 * ((s.val / 4 + j) % 4) + b.val, by omega⟩ := by
  unfold tile k0_pay3
  refine (Ideal.matmul_plain_apply (M := 256) (K := 4096) (N := 512) none _ _ _ a b).trans ?_
  rw [constant_apply, Ideal.ofBits_zero_f32, zero_add]
  refine Finset.sum_congr rfl fun k _ => ?_
  have e : ∀ h, shapeCast S4096x512 (wv m s j) h (ix2 k b) = wv m s j (ix3 0 k b) := fun h => shapeCast_1ab_ab_apply _ h k b
  rw [truncf_apply, e]
  unfold xb k0_pay2
  rw [shapeCast_self, truncf_apply]
  rfl

/-- A slot, of 128 columns of a tile. -/
theorem cut_apply (o : ℕ) (y : FVec Ideal S256x512 .f32) (h : S256x512.Slices ![0, o] S256x128) (hc : S256x128.ShapeCasts S1x256x128)
    (ht : FTy.bf16.bits < FTy.f32.bits) (a : Fin 256) (b : Fin 128) (k : Fin 512) (hk : k.val = o + b.val) :
    shapeCast S1x256x128 (extractStridedSlice S256x128 ![0, o] (truncf .bf16 y ht) h) hc (ix3 0 a b) = y (ix2 a k) :=
  (shapeCast_ab_1ab_apply _ hc 0 a b).trans (slice2_axis1_apply o (truncf .bf16 y ht) h a b k hk)

/-- Slot `p` is the columns from 128 times `p % 4` on of tile `p / 4 + 1`. -/
theorem slotVal_tile (s : Dev nD) (p : Fin 16) (a : Fin 256) (b : Fin 128) :
    slotVal m s p (ix3 0 a b) = tile m s (p.val / 4 + 1) (ix2 a ⟨128 * (p.val % 4) + b.val, by omega⟩) := by
  match p with
  | 0 => exact cut_apply 0 (tile m s 1) slices_S256x512_o0_0_S256x128 shapeCasts_S256x128_S1x256x128 (by decide) a b _ rfl
  | 1 => exact cut_apply 128 (tile m s 1) slices_S256x512_o0_128_S256x128 shapeCasts_S256x128_S1x256x128 (by decide) a b _ rfl
  | 2 => exact cut_apply 256 (tile m s 1) slices_S256x512_o0_256_S256x128 shapeCasts_S256x128_S1x256x128 (by decide) a b _ rfl
  | 3 => exact cut_apply 384 (tile m s 1) slices_S256x512_o0_384_S256x128 shapeCasts_S256x128_S1x256x128 (by decide) a b _ rfl
  | 4 => exact cut_apply 0 (tile m s 2) slices_S256x512_o0_0_S256x128 shapeCasts_S256x128_S1x256x128 (by decide) a b _ rfl
  | 5 => exact cut_apply 128 (tile m s 2) slices_S256x512_o0_128_S256x128 shapeCasts_S256x128_S1x256x128 (by decide) a b _ rfl
  | 6 => exact cut_apply 256 (tile m s 2) slices_S256x512_o0_256_S256x128 shapeCasts_S256x128_S1x256x128 (by decide) a b _ rfl
  | 7 => exact cut_apply 384 (tile m s 2) slices_S256x512_o0_384_S256x128 shapeCasts_S256x128_S1x256x128 (by decide) a b _ rfl
  | 8 => exact cut_apply 0 (tile m s 3) slices_S256x512_o0_0_S256x128 shapeCasts_S256x128_S1x256x128 (by decide) a b _ rfl
  | 9 => exact cut_apply 128 (tile m s 3) slices_S256x512_o0_128_S256x128 shapeCasts_S256x128_S1x256x128 (by decide) a b _ rfl
  | 10 => exact cut_apply 256 (tile m s 3) slices_S256x512_o0_256_S256x128 shapeCasts_S256x128_S1x256x128 (by decide) a b _ rfl
  | 11 => exact cut_apply 384 (tile m s 3) slices_S256x512_o0_384_S256x128 shapeCasts_S256x128_S1x256x128 (by decide) a b _ rfl
  | 12 => exact cut_apply 0 (tile m s 4) slices_S256x512_o0_0_S256x128 shapeCasts_S256x128_S1x256x128 (by decide) a b _ rfl
  | 13 => exact cut_apply 128 (tile m s 4) slices_S256x512_o0_128_S256x128 shapeCasts_S256x128_S1x256x128 (by decide) a b _ rfl
  | 14 => exact cut_apply 256 (tile m s 4) slices_S256x512_o0_256_S256x128 shapeCasts_S256x128_S1x256x128 (by decide) a b _ rfl
  | ⟨_ + 16, h⟩ => exact absurd h (Nat.not_lt.2 (Nat.le_add_left _ _))
  | 15 => exact cut_apply 384 (tile m s 4) slices_S256x512_o0_384_S256x128 shapeCasts_S256x128_S1x256x128 (by decide) a b _ rfl

/-- What device `t` holds of device `s`'s rows: its own 128 columns of their product. -/
theorem rAll_val (t s : Dev nD) (a : Fin 256) (b : Fin 128) (h : 256 * s.val + a.val < 4096) :
    rAll m t (ix2 ⟨256 * s.val + a.val, h⟩ b : S4096x128.Idx) = prodAt m s a ⟨128 * t.val + b.val, by have := t.isLt; show _ < 2048; have : nD = 16 := rfl; omega⟩ := by
  have hs : s.val < 16 := s.isLt
  have ht : t.val < 16 := t.isLt
  rw [rAll_apply, slotVal_tile, tile_apply]
  refine congrArg (prodAt m s a) (Fin.ext ?_)
  show 512 * ((s.val / 4 + ((4 * ((t.val / 4 + 7 - s.val / 4) % 4) + t.val % 4) / 4 + 1)) % 4)
      + (128 * ((4 * ((t.val / 4 + 7 - s.val / 4) % 4) + t.val % 4) % 4) + b.val) = 128 * t.val + b.val
  omega

/-! ## The scale -/

/-- The largest absolute value of a tile, as the kernel takes it. -/
def maxAbs (y : FVec Ideal S256x512 .f32) : EReal :=
  extractAt ![0, 0, 0] (shapeCast S1x1x1 (multiReduction .maximumf [1, 2] S1 (shapeCast S1x256x512 (absf y) shapeCasts_S256x512_S1x256x512)
    0xFF800000#32 reduces_S1x256x512_S1 (.inl rfl) rfl) shapeCasts_S1_S1x1x1) inpos_S1x1x1_p0_0_0

/-- It is the least upper bound of the absolute values. -/
theorem maxAbs_le (y : FVec Ideal S256x512 .f32) (b : EReal) : maxAbs y ≤ b ↔ ∀ (i : Fin 256) (j : Fin 512), max (y (ix2 i j)) (-y (ix2 i j)) ≤ b :=
  matMax_le (absf y) b shapeCasts_S256x512_S1x256x512 reduces_S1x256x512_S1 (.inl rfl) rfl shapeCasts_S1_S1x1x1 inpos_S1x1x1_p0_0_0

/-- Each later tile takes the running maximum on. -/
theorem pay11_eq (z : EReal) (x : Vec Ideal S256x4096 .bf16) (w : Vec Ideal S1x4096x512 .f32) :
    k0_pay11 (F := Ideal) z x w = max z (maxAbs (k0_pay3 x w)) := by
  unfold k0_pay11
  exact Ideal.scalar_maximumf_def _ _

theorem pay18_eq (z : EReal) (x : Vec Ideal S256x4096 .bf16) (w : Vec Ideal S1x4096x512 .f32) :
    k0_pay18 (F := Ideal) z x w = max z (maxAbs (k0_pay3 x w)) := by
  unfold k0_pay18
  exact Ideal.scalar_maximumf_def _ _

theorem pay26_eq (z : EReal) (x : Vec Ideal S256x4096 .bf16) (w : Vec Ideal S1x4096x512 .f32) :
    k0_pay26 (F := Ideal) z x w = max z (maxAbs (k0_pay3 x w)) := by
  unfold k0_pay26
  exact Ideal.scalar_maximumf_def _ _

/-- The maximum a device sends. -/
theorem mx4_eq (s : Dev nD) :
    mx4 m s = max (max (max (maxAbs (tile m s 1)) (maxAbs (tile m s 2))) (maxAbs (tile m s 3))) (maxAbs (tile m s 4)) := by
  unfold mx4 mx3 mx2 mx1 y1 tile
  rw [pay26_eq, pay18_eq, pay11_eq]
  unfold k0_pay4 maxAbs
  rfl

/-- The four tiles are the whole product of device `s`'s rows. -/
theorem mx4_le (s : Dev nD) (b : EReal) :
    mx4 m s ≤ b ↔ ∀ (a : Fin 256) (n : Fin 2048), max (prodAt m s a n) (-prodAt m s a n) ≤ b := by
  have hs : s.val < 16 := s.isLt
  rw [mx4_eq, max_le_iff, max_le_iff, max_le_iff]
  simp only [maxAbs_le, tile_apply]
  refine ⟨fun h a n => ?_, fun h => ⟨⟨⟨fun a c => h a _, fun a c => h a _⟩, fun a c => h a _⟩, fun a c => h a _⟩⟩
  obtain ⟨⟨⟨h1, h2⟩, h3⟩, h4⟩ := h
  have key : ∀ j : ℕ, (s.val / 4 + j) % 4 = n.val / 512 →
      (∀ (i : Fin 256) (c : Fin 512), max (prodAt m s i ⟨512 * ((s.val / 4 + j) % 4) + c.val, by omega⟩)
        (-prodAt m s i ⟨512 * ((s.val / 4 + j) % 4) + c.val, by omega⟩) ≤ b) → max (prodAt m s a n) (-prodAt m s a n) ≤ b := by
    intro j hj h
    have e : (⟨512 * ((s.val / 4 + j) % 4) + n.val % 512, by omega⟩ : Fin 2048) = n := Fin.ext (by show 512 * _ + _ = _; omega)
    have := h a ⟨n.val % 512, Nat.mod_lt _ (by decide)⟩
    rwa [e] at this
  have hn := n.isLt
  have hj : (s.val / 4 + 1) % 4 = n.val / 512 ∨ (s.val / 4 + 2) % 4 = n.val / 512 ∨ (s.val / 4 + 3) % 4 = n.val / 512
      ∨ (s.val / 4 + 4) % 4 = n.val / 512 := by omega
  rcases hj with e | e | e | e
  · exact key 1 e h1
  · exact key 2 e h2
  · exact key 3 e h3
  · exact key 4 e h4

/-- The largest of the gathered maxima. -/
def maxAll : EReal :=
  extractAt ![0, 0, 0] (shapeCast S1x1x1 (multiReduction (F := Ideal) .maximumf [1, 2] S1 (shapeCast S1x16x128 (gAll m) shapeCasts_S16x128_S1x16x128)
    0xFF800000#32 reduces_S1x16x128_S1 (.inl rfl) rfl) shapeCasts_S1_S1x1x1) inpos_S1x1x1_p0_0_0

theorem gAll_apply (i : Fin 16) (j : Fin 128) : (gAll m : S16x128.Idx → EReal) (ix2 i j) = mx4 m i := by
  unfold gAll
  rfl

/-- It is the least upper bound of the absolute values of every device's product. -/
theorem maxAll_le (b : EReal) :
    maxAll m ≤ b ↔ ∀ (s : Dev nD) (a : Fin 256) (n : Fin 2048), max (prodAt m s a n) (-prodAt m s a n) ≤ b := by
  refine (matMax_le (gAll m) b shapeCasts_S16x128_S1x16x128 reduces_S1x16x128_S1 (.inl rfl) rfl shapeCasts_S1_S1x1x1 inpos_S1x1x1_p0_0_0).trans ?_
  constructor
  · intro h s
    have h1 : mx4 m s ≤ b := le_of_eq_of_le (gAll_apply m s 0).symm (h s 0)
    exact (mx4_le m s b).1 h1
  · intro h i j
    exact le_of_eq_of_le (α := EReal) (gAll_apply m i j) ((mx4_le m i b).2 (h i))

/-- An element `x` rounded to a multiple of `d`, between -127 and 127 of them. -/
def quant (d x : EReal) : EReal :=
  min (Ideal.ofBits .f32 0x42FE0000#32) (max (Ideal.ofBits .f32 0xC2FE0000#32) (Ideal.liftRound Ideal.roundHalfEven (Ideal.div x d))) * d

/-- The multiple: the largest absolute value over 127. -/
def step (z : EReal) : EReal := Ideal.div z (Ideal.ofBits .f32 0x42FE0000#32)

theorem pay35_eq : k0_pay35 (gAll m) = step (maxAll m) := by
  unfold k0_pay35
  exact Ideal.scalar_divf_def _ _

theorem pay36_apply (g : Vec Ideal S16x128 .f32) (r : Vec Ideal S4096x128 .bf16) (i : S4096x128.Idx) :
    k0_pay36 (F := Ideal) g r i = Ideal.liftRound Ideal.roundHalfEven (Ideal.div (r i) (k0_pay35 g)) := by
  unfold k0_pay36
  exact Ideal.roundeven_def _

theorem pay1_apply (d : EReal) (x : FVec Ideal S4096x128 .f32) (i : S4096x128.Idx) (lo hi : EReal) :
    k0_pay1 (F := Ideal) d x lo hi i = min hi (max lo (x i)) * d := by
  unfold k0_pay1
  rw [mulf_apply, minimumf_apply, maximumf_apply, broadcast_apply, broadcast_apply, broadcast_apply]

/-- An element of a device's result. -/
theorem outAt_apply (c : Dev nD) (i : S4096x128.Idx) : (outAt m c : S4096x128.Idx → EReal) i = quant (step (maxAll m)) (rAll m c i) := by
  unfold outAt
  rw [pay35_eq]
  refine (pay1_apply _ _ i _ _).trans ?_
  rw [pay36_apply, pay35_eq]
  rfl

/-! ## The reference -/

section Reference

variable (A : FVec Ideal ⟨2, ![4096, 4096]⟩ .f32) (W : FVec Ideal ⟨2, ![4096, 2048]⟩ .f32)

open Cert.ReferenceIdeal (dot_S4096x4096_S4096x2048_S4096x2048_1_0_0_1_n_n)
open Cert.ReferenceIdeal.Gen (reducesTo_S4096x2048_S_d0_1 h_S_ bcast_S_S4096x2048)

/-- The reference's product. -/
def refDot : FVec Ideal ⟨2, ![4096, 2048]⟩ .f32 := Host.dotGeneral dot_S4096x4096_S4096x2048_S4096x2048_1_0_0_1_n_n none A W

theorem refDot_apply (r : Fin 4096) (n : Fin 2048) : refDot A W (ix2 r n) = ∑ k : Fin 4096, (A (ix2 r k) : EReal) * W (ix2 k n) := by
  refine (congrFun (matmul_zero_eq_dotGeneral _ none A W).symm (ix2 r n)).trans ?_
  refine (Ideal.matmul_plain_apply (M := 4096) (K := 4096) (N := 2048) none A W _ r n).trans ?_
  rw [constant_apply, Ideal.ofBits_zero_f32, zero_add]

/-- Its largest absolute value, and that over 127. -/
def refMax : FVec Ideal S_ .f32 :=
  Host.reduce FloatOps.maximumf (Host.absf (refDot A W)) (constant S_ .f32 0xFF800000#32) reducesTo_S4096x2048_S_d0_1 h_S_

def refStep : FVec Ideal S_ .f32 := Host.divf (refMax A W) (constant S_ .f32 0x42FE0000#32)

/-- The reference's result. -/
def refValue : FVec Ideal ⟨2, ![4096, 2048]⟩ .f32 :=
  mulf (minimumf (broadcastInDim ⟨2, ![4096, 2048]⟩ ![] bcast_S_S4096x2048 (id (constant S_ .f32 0x42FE0000#32)))
      (maximumf (broadcastInDim ⟨2, ![4096, 2048]⟩ ![] bcast_S_S4096x2048 (id (constant S_ .f32 0xC2FE0000#32)))
        (Host.roundeven (Host.divf (refDot A W) (broadcastInDim ⟨2, ![4096, 2048]⟩ ![] bcast_S_S4096x2048 (refStep A W))))))
    (broadcastInDim ⟨2, ![4096, 2048]⟩ ![] bcast_S_S4096x2048 (refStep A W))

theorem refMax_le (i : S_.Idx) (b : EReal) :
    refMax A W i ≤ b ↔ ∀ (r : Fin 4096) (n : Fin 2048), max (refDot A W (ix2 r n)) (-refDot A W (ix2 r n)) ≤ b :=
  hostMax_le (Host.absf (refDot A W)) b reducesTo_S4096x2048_S_d0_1 h_S_ i

theorem refStep_apply (i : S_.Idx) : refStep A W i = step (refMax A W i) := by
  unfold refStep
  rw [hostDivf_apply, constant_apply]
  rfl

theorem refValue_apply (i : (⟨2, ![4096, 2048]⟩ : Shape).Idx) : refValue A W i = quant (step (refMax A W ix0)) (refDot A W i) := by
  have e : ∀ v : FVec Ideal S_ .f32, broadcastInDim ⟨2, ![4096, 2048]⟩ ![] bcast_S_S4096x2048 v i = v ix0 := fun v =>
    broadcastInDim_scalar_apply bcast_S_S4096x2048 v i
  have er : ∀ v : FVec Ideal ⟨2, ![4096, 2048]⟩ .f32, Host.roundeven v i = Ideal.liftRound Ideal.roundHalfEven (v i) := fun v =>
    Ideal.hostUnary_roundeven_def _
  unfold refValue
  rw [mulf_apply, minimumf_apply, maximumf_apply, e, e, e, er, hostDivf_apply, e, refStep_apply]
  rfl

end Reference

/-! ## The two together -/

section Agree

variable (A : FVec Ideal ⟨2, ![4096, 4096]⟩ .f32) (W : FVec Ideal ⟨2, ![4096, 2048]⟩ .f32)
  (tA : Layout.Tiles ⟨2, ![256, 4096]⟩ ⟨2, ![4096, 4096]⟩ 0 16)
  (hA : ∀ c : Dev nD, argA m c = Layout.block ⟨2, ![256, 4096]⟩ ⟨2, ![4096, 4096]⟩ 0 16 c A tA)
  (hW : ∀ c : Dev nD, argW m c = W)

include hA hW

/-- A device's product is its rows of the reference's. -/
theorem prodAt_eq (s : Dev nD) (a : Fin 256) (n : Fin 2048) (h : 256 * s.val + a.val < 4096) :
    prodAt m s a n = refDot A W (ix2 ⟨256 * s.val + a.val, h⟩ n) := by
  rw [refDot_apply]
  unfold prodAt
  refine Finset.sum_congr rfl fun k _ => ?_
  rw [hA, hW, Layout.block_apply]
  congr 2
  refine (eq_ix2 _).trans ?_
  congr 1
  exact Fin.ext (by show s.val * 256 + a.val = 256 * s.val + a.val; omega)

/-- Every row of the reference's product is a device's. -/
theorem maxAll_eq (i : S_.Idx) : maxAll m = refMax A W i := by
  refine eq_of_forall_ge_iff fun b => (maxAll_le m b).trans (Iff.trans ?_ (refMax_le A W i b).symm)
  constructor
  · intro h r n
    have hr := r.isLt
    have := h ⟨r.val / 256, by show _ < 16; omega⟩ ⟨r.val % 256, Nat.mod_lt _ (by decide)⟩ n
    have e : ∀ h, (⟨256 * (r.val / 256) + r.val % 256, h⟩ : Fin 4096) = r := fun h => Fin.ext (by show 256 * _ + _ = _; omega)
    rw [prodAt_eq m A W tA hA hW _ _ n (by show 256 * (r.val / 256) + r.val % 256 < 4096; omega), e] at this
    exact this
  · intro h s a n
    have hs : s.val < 16 := s.isLt
    rw [prodAt_eq m A W tA hA hW s a n (by omega)]
    exact h _ n

/-- A device's result is its block of columns of the reference's. -/
theorem outAt_eq_block (tY : Layout.Tiles ⟨2, ![4096, 128]⟩ ⟨2, ![4096, 2048]⟩ 1 16) (c : Dev nD) :
    (outAt m c : S4096x128.Idx → EReal) = Layout.block ⟨2, ![4096, 128]⟩ ⟨2, ![4096, 2048]⟩ 1 16 c (refValue A W) tY := by
  funext i
  obtain ⟨r, q, rfl⟩ : ∃ (r : Fin 4096) (q : Fin 128), i = ix2 r q := ⟨i 0, i 1, eq_ix2 i⟩
  have hr := r.isLt
  have hc : c.val < 16 := c.isLt
  have hlt : 256 * (r.val / 256) + r.val % 256 < 4096 := by omega
  have e : r = ⟨256 * (r.val / 256) + r.val % 256, hlt⟩ := Fin.ext (by show _ = 256 * _ + _; omega)
  rw [outAt_apply, Layout.block_apply, refValue_apply, maxAll_eq m A W tA hA hW ix0]
  refine congrArg _ ?_
  have h1 := rAll_val m c ⟨r.val / 256, by show _ < 16; omega⟩ ⟨r.val % 256, Nat.mod_lt _ (by decide)⟩ q hlt
  rw [prodAt_eq m A W tA hA hW _ _ _ hlt] at h1
  rw [← e] at h1
  refine h1.trans (congrArg (refDot A W) ?_)
  refine Eq.trans ?_ (eq_ix2 _).symm
  congr 1
  exact Fin.ext (by show 128 * c.val + q.val = c.val * 128 + q.val; omega)

end Agree

end Cert.KernelIdeal.Run

end
-- ==== Proof.lean ====
module

public import proofs.«01_k».proof.Defs
public import proofs.«01_k».proof.Proof.Gen.ReferenceIdeal
public import proofs.«01_k».proof.Proof.Gen.ReferenceIdeal.Run
public import proofs.«01_k».proof.Proof.IdealLaunch
public import proofs.«01_k».proof.Proof.IdealValue
public import proofs.«01_k».proof.Proof.KernelLaunch

@[expose] public section

noncomputable section

namespace Cert.Proof

open Idealize.ShloMosaic Idealize.SL.Sem

/-- `Cert.quiescent_Kernel`: what `run_main` says of the arguments and of the counters, at the bit-exact floats. -/
theorem frame_kernel : Cert.quiescent_Kernel := fun m ρ _ =>
  (θ_run Cert.Kernel.defs _ _).mono (fun _ h => ⟨fun c => (h.1 c).2, h.2⟩) (Cert.Kernel.Run.run_main (F := Bits) m ρ)

/-- `Cert.quiescent_KernelIdeal`: the same of the exact floats. -/
theorem frame_kernelIdeal : Cert.quiescent_KernelIdeal := fun m ρ _ =>
  (θ_run Cert.KernelIdeal.defs _ _).mono (fun _ h => ⟨fun c => (h.1 c).2, h.2⟩)
    (Cert.KernelIdeal.Run.run_main (F := Ideal) m ρ)

/-- `Cert.quiescent_ReferenceIdeal`: no operation of the reference writes an argument, and it declares no semaphore. -/
theorem frame_referenceIdeal : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- `Cert.algebraic_KernelIdeal_ReferenceIdeal`: in exact arithmetic, from each device's block of the rows and its copy
    of the weight, each device ends with its block of columns of the reference's result. -/
theorem algebraic : Cert.algebraic_KernelIdeal_ReferenceIdeal := fun m g m' g' _ hag =>
  ⟨Cert.KernelIdeal.Run.refValue (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run Cert.KernelIdeal.defs _ _).mono
      (fun _ h c => ⟨(h.1 c).1.trans (Cert.KernelIdeal.Run.outAt_eq_block m _ _ _ (fun s => (hag s).1) (fun s => (hag s).2) _ c), (h.1 c).2⟩)
      (Cert.KernelIdeal.Run.run_main (F := Ideal) m g),
    (θ_run Cert.ReferenceIdeal.defs _ _).mono (fun _ h => h 0) (Cert.ReferenceIdeal.Value.run (F := Ideal) m' g')⟩

theorem claim : Cert.Claim :=
  ⟨Cert.Kernel.Gen.facts, Cert.KernelIdeal.Gen.facts, Cert.ReferenceIdeal.Gen.facts,
    frame_kernel, frame_kernelIdeal, frame_referenceIdeal, trivial, algebraic⟩

end Cert.Proof

end
